-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 256]⟩ ⟨2, ![32768, 256]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 256]⟩ ⟨2, ![32768, 256]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x256 : Shape := ⟨2, ![1024, 256]⟩
abbrev S32768x256 : Shape := ⟨2, ![32768, 256]⟩
abbrev S31 : Shape := ⟨1, ![31]⟩
abbrev S_ : Shape := ⟨0, ![]⟩
abbrev S1024x1 : Shape := ⟨2, ![1024, 1]⟩
abbrev S1023x256 : Shape := ⟨2, ![1023, 256]⟩
abbrev S1x256 : Shape := ⟨2, ![1, 256]⟩
abbrev S1022x256 : Shape := ⟨2, ![1022, 256]⟩
abbrev S2x256 : Shape := ⟨2, ![2, 256]⟩
abbrev S1020x256 : Shape := ⟨2, ![1020, 256]⟩
abbrev S4x256 : Shape := ⟨2, ![4, 256]⟩
abbrev S1016x256 : Shape := ⟨2, ![1016, 256]⟩
abbrev S8x256 : Shape := ⟨2, ![8, 256]⟩
abbrev S1008x256 : Shape := ⟨2, ![1008, 256]⟩
abbrev S16x256 : Shape := ⟨2, ![16, 256]⟩
abbrev S992x256 : Shape := ⟨2, ![992, 256]⟩
abbrev S32x256 : Shape := ⟨2, ![32, 256]⟩
abbrev S960x256 : Shape := ⟨2, ![960, 256]⟩
abbrev S64x256 : Shape := ⟨2, ![64, 256]⟩
abbrev S896x256 : Shape := ⟨2, ![896, 256]⟩
abbrev S128x256 : Shape := ⟨2, ![128, 256]⟩
abbrev S768x256 : Shape := ⟨2, ![768, 256]⟩
abbrev S256x256 : Shape := ⟨2, ![256, 256]⟩
abbrev S512x256 : Shape := ⟨2, ![512, 256]⟩
abbrev S1 : Shape := ⟨1, ![1]⟩

abbrev nBuf : Space → Nat
  | .hbm => 2
  | .vmem => 3
  | .smem => 0
  | _ => 0

abbrev bufTy : (tb : Table) → Fin (tcTables nBuf tb) → BufTy
  | .hbm, ⟨0, _⟩ => ⟨S1024x256, .bf16⟩
  | .hbm, ⟨1, _⟩ => ⟨S1024x256, .bf16⟩
  | .local _ .vmem, ⟨0, _⟩ => ⟨S1024x256, .bf16⟩
  | .local _ .vmem, ⟨1, _⟩ => ⟨S1024x256, .bf16⟩
  | .local _ .vmem, ⟨2, _⟩ => ⟨S32768x256, .bf16⟩
  | _, _ => ⟨S1024x256, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  (ofTc nBuf bufTy 1 64 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1024_i32_189 : BitVec 32 := 1024#32
  let v1233 : BitVec 32 := Scalar.muli v2 c1024_i32_189
  let v1234 : Index := Scalar.indexCast v1233
  let c0_190 : Index := 0#32
  ![v1234.toNat, 0]
def k0_off2 (d0 : Dev nD) (c0_i32_192 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_191 : BitVec 32 := 32#32
  let v1238 : BitVec 32 := Scalar.addi v2 c32_i32_191
  let v1239 : BitVec 32 := Scalar.subi v1238 c0_i32_192
  let c32_i32_193 : BitVec 32 := 32#32
  let v1240 : BitVec 32 := Scalar.remsi v1239 c32_i32_193
  let c1024_i32_195 : BitVec 32 := 1024#32
  let v1242 : BitVec 32 := Scalar.muli v1240 c1024_i32_195
  let c0_i32_200 : BitVec 32 := 0#32
  ![v1242.toNat, 0]
def k0_dev3 (d0 : Dev nD) : Nat :=
  let c0_i32_199 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_198 : BitVec 32 := 1#32
  let v1243 : BitVec 32 := Scalar.muli v7 c1_i32_198
  let v1244 : BitVec 32 := Scalar.addi c0_i32_199 v1243
  v1244.toNat
def k0_dev4 (d0 : Dev nD) : Nat :=
  let c0_i32_221 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_220 : BitVec 32 := 1#32
  let v1266 : BitVec 32 := Scalar.muli v7 c1_i32_220
  let v1267 : BitVec 32 := Scalar.addi c0_i32_221 v1266
  v1267.toNat
def k0_dev5 (d0 : Dev nD) : Nat :=
  let c0_i32_243 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_242 : BitVec 32 := 1#32
  let v1289 : BitVec 32 := Scalar.muli v7 c1_i32_242
  let v1290 : BitVec 32 := Scalar.addi c0_i32_243 v1289
  v1290.toNat
def k0_dev6 (d0 : Dev nD) : Nat :=
  let c0_i32_264 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_263 : BitVec 32 := 1#32
  let v1312 : BitVec 32 := Scalar.muli v7 c1_i32_263
  let v1313 : BitVec 32 := Scalar.addi c0_i32_264 v1312
  v1313.toNat
def k0_dev7 (d0 : Dev nD) : Nat :=
  let c0_i32_286 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_285 : BitVec 32 := 1#32
  let v1335 : BitVec 32 := Scalar.muli v7 c1_i32_285
  let v1336 : BitVec 32 := Scalar.addi c0_i32_286 v1335
  v1336.toNat
def k0_dev8 (d0 : Dev nD) : Nat :=
  let c0_i32_307 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_306 : BitVec 32 := 1#32
  let v1358 : BitVec 32 := Scalar.muli v7 c1_i32_306
  let v1359 : BitVec 32 := Scalar.addi c0_i32_307 v1358
  v1359.toNat
def k0_dev9 (d0 : Dev nD) : Nat :=
  let c0_i32_328 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_327 : BitVec 32 := 1#32
  let v1381 : BitVec 32 := Scalar.muli v7 c1_i32_327
  let v1382 : BitVec 32 := Scalar.addi c0_i32_328 v1381
  v1382.toNat
def k0_dev10 (d0 : Dev nD) : Nat :=
  let c0_i32_349 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_348 : BitVec 32 := 1#32
  let v1404 : BitVec 32 := Scalar.muli v7 c1_i32_348
  let v1405 : BitVec 32 := Scalar.addi c0_i32_349 v1404
  v1405.toNat
def k0_dev11 (d0 : Dev nD) : Nat :=
  let c0_i32_371 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_370 : BitVec 32 := 1#32
  let v1427 : BitVec 32 := Scalar.muli v7 c1_i32_370
  let v1428 : BitVec 32 := Scalar.addi c0_i32_371 v1427
  v1428.toNat
def k0_dev12 (d0 : Dev nD) : Nat :=
  let c0_i32_392 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_391 : BitVec 32 := 1#32
  let v1450 : BitVec 32 := Scalar.muli v7 c1_i32_391
  let v1451 : BitVec 32 := Scalar.addi c0_i32_392 v1450
  v1451.toNat
def k0_dev13 (d0 : Dev nD) : Nat :=
  let c0_i32_413 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_412 : BitVec 32 := 1#32
  let v1473 : BitVec 32 := Scalar.muli v7 c1_i32_412
  let v1474 : BitVec 32 := Scalar.addi c0_i32_413 v1473
  v1474.toNat
def k0_dev14 (d0 : Dev nD) : Nat :=
  let c0_i32_434 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_433 : BitVec 32 := 1#32
  let v1496 : BitVec 32 := Scalar.muli v7 c1_i32_433
  let v1497 : BitVec 32 := Scalar.addi c0_i32_434 v1496
  v1497.toNat
def k0_dev15 (d0 : Dev nD) : Nat :=
  let c0_i32_455 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_454 : BitVec 32 := 1#32
  let v1519 : BitVec 32 := Scalar.muli v7 c1_i32_454
  let v1520 : BitVec 32 := Scalar.addi c0_i32_455 v1519
  v1520.toNat
def k0_dev16 (d0 : Dev nD) : Nat :=
  let c0_i32_476 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_475 : BitVec 32 := 1#32
  let v1542 : BitVec 32 := Scalar.muli v7 c1_i32_475
  let v1543 : BitVec 32 := Scalar.addi c0_i32_476 v1542
  v1543.toNat
def k0_dev17 (d0 : Dev nD) : Nat :=
  let c0_i32_497 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_496 : BitVec 32 := 1#32
  let v1565 : BitVec 32 := Scalar.muli v7 c1_i32_496
  let v1566 : BitVec 32 := Scalar.addi c0_i32_497 v1565
  v1566.toNat
def k0_dev18 (d0 : Dev nD) : Nat :=
  let c0_i32_518 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_517 : BitVec 32 := 1#32
  let v1588 : BitVec 32 := Scalar.muli v7 c1_i32_517
  let v1589 : BitVec 32 := Scalar.addi c0_i32_518 v1588
  v1589.toNat
def k0_dev19 (d0 : Dev nD) : Nat :=
  let c0_i32_540 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_539 : BitVec 32 := 1#32
  let v1611 : BitVec 32 := Scalar.muli v7 c1_i32_539
  let v1612 : BitVec 32 := Scalar.addi c0_i32_540 v1611
  v1612.toNat
def k0_dev20 (d0 : Dev nD) : Nat :=
  let c0_i32_561 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_560 : BitVec 32 := 1#32
  let v1634 : BitVec 32 := Scalar.muli v7 c1_i32_560
  let v1635 : BitVec 32 := Scalar.addi c0_i32_561 v1634
  v1635.toNat
def k0_dev21 (d0 : Dev nD) : Nat :=
  let c0_i32_582 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_581 : BitVec 32 := 1#32
  let v1657 : BitVec 32 := Scalar.muli v7 c1_i32_581
  let v1658 : BitVec 32 := Scalar.addi c0_i32_582 v1657
  v1658.toNat
def k0_dev22 (d0 : Dev nD) : Nat :=
  let c0_i32_603 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_602 : BitVec 32 := 1#32
  let v1680 : BitVec 32 := Scalar.muli v7 c1_i32_602
  let v1681 : BitVec 32 := Scalar.addi c0_i32_603 v1680
  v1681.toNat
def k0_dev23 (d0 : Dev nD) : Nat :=
  let c0_i32_624 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_623 : BitVec 32 := 1#32
  let v1703 : BitVec 32 := Scalar.muli v7 c1_i32_623
  let v1704 : BitVec 32 := Scalar.addi c0_i32_624 v1703
  v1704.toNat
def k0_dev24 (d0 : Dev nD) : Nat :=
  let c0_i32_645 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_644 : BitVec 32 := 1#32
  let v1726 : BitVec 32 := Scalar.muli v7 c1_i32_644
  let v1727 : BitVec 32 := Scalar.addi c0_i32_645 v1726
  v1727.toNat
def k0_dev25 (d0 : Dev nD) : Nat :=
  let c0_i32_666 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_665 : BitVec 32 := 1#32
  let v1749 : BitVec 32 := Scalar.muli v7 c1_i32_665
  let v1750 : BitVec 32 := Scalar.addi c0_i32_666 v1749
  v1750.toNat
def k0_dev26 (d0 : Dev nD) : Nat :=
  let c0_i32_687 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_686 : BitVec 32 := 1#32
  let v1772 : BitVec 32 := Scalar.muli v7 c1_i32_686
  let v1773 : BitVec 32 := Scalar.addi c0_i32_687 v1772
  v1773.toNat
def k0_dev27 (d0 : Dev nD) : Nat :=
  let c0_i32_708 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_707 : BitVec 32 := 1#32
  let v1795 : BitVec 32 := Scalar.muli v7 c1_i32_707
  let v1796 : BitVec 32 := Scalar.addi c0_i32_708 v1795
  v1796.toNat
def k0_dev28 (d0 : Dev nD) : Nat :=
  let c0_i32_729 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_728 : BitVec 32 := 1#32
  let v1818 : BitVec 32 := Scalar.muli v7 c1_i32_728
  let v1819 : BitVec 32 := Scalar.addi c0_i32_729 v1818
  v1819.toNat
def k0_dev29 (d0 : Dev nD) : Nat :=
  let c0_i32_750 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_749 : BitVec 32 := 1#32
  let v1841 : BitVec 32 := Scalar.muli v7 c1_i32_749
  let v1842 : BitVec 32 := Scalar.addi c0_i32_750 v1841
  v1842.toNat
def k0_dev30 (d0 : Dev nD) : Nat :=
  let c0_i32_771 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_770 : BitVec 32 := 1#32
  let v1864 : BitVec 32 := Scalar.muli v7 c1_i32_770
  let v1865 : BitVec 32 := Scalar.addi c0_i32_771 v1864
  v1865.toNat
def k0_dev31 (d0 : Dev nD) : Nat :=
  let c0_i32_792 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_791 : BitVec 32 := 1#32
  let v1887 : BitVec 32 := Scalar.muli v7 c1_i32_791
  let v1888 : BitVec 32 := Scalar.addi c0_i32_792 v1887
  v1888.toNat
def k0_dev32 (d0 : Dev nD) : Nat :=
  let c0_i32_813 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_812 : BitVec 32 := 1#32
  let v1910 : BitVec 32 := Scalar.muli v7 c1_i32_812
  let v1911 : BitVec 32 := Scalar.addi c0_i32_813 v1910
  v1911.toNat
def k0_dev33 (d0 : Dev nD) : Nat :=
  let c0_i32_834 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_833 : BitVec 32 := 1#32
  let v1933 : BitVec 32 := Scalar.muli v7 c1_i32_833
  let v1934 : BitVec 32 := Scalar.addi c0_i32_834 v1933
  v1934.toNat
@[reducible] def k0_t1_loop : Scf.Loop 32 :=
  let c0_i32_848 : BitVec 32 := 0#32
  let c16_i32_849 : BitVec 32 := 16#32
  let v1951 : BitVec 32 := Scalar.addi c0_i32_848 c16_i32_849
  let c1_i32_850 : BitVec 32 := 1#32
  ⟨c0_i32_848, v1951, c1_i32_850⟩
def k0_off3 (k0_t1 : Fin k0_t1_loop.trips) : Fin 2 → Nat :=
  let c0_i32_848 : BitVec 32 := 0#32
  let c1_i32_850 : BitVec 32 := 1#32
  let arg5 : BitVec 32 := Scf.iv c0_i32_848 c1_i32_850 k0_t1
  let c0_i32_933 : BitVec 32 := 0#32
  let v1976 : BitVec 1 := Scalar.cmpi .sgt arg5 c0_i32_933
  let v1977 : BitVec 32 := Scalar.extui v1976
  let c0_i32_934 : BitVec 32 := 0#32
  let v1978 : BitVec 1 := Scalar.cmpi .slt arg5 c0_i32_934
  let v1979 : BitVec 32 := Scalar.extui v1978
  let v1980 : BitVec 32 := Scalar.subi v1977 v1979
  let c1_i32_932 : BitVec 32 := 1#32
  let c0_i32_935 : BitVec 32 := 0#32
  let v1981 : BitVec 1 := Scalar.cmpi .sgt c1_i32_932 c0_i32_935
  let v1982 : BitVec 32 := Scalar.extui v1981
  let c0_i32_936 : BitVec 32 := 0#32
  let v1983 : BitVec 1 := Scalar.cmpi .slt c1_i32_932 c0_i32_936
  let v1984 : BitVec 32 := Scalar.extui v1983
  let v1985 : BitVec 32 := Scalar.subi v1982 v1984
  let v1986 : BitVec 1 := Scalar.cmpi .ne v1980 v1985
  let v1987 : BitVec 32 := Scalar.remsi arg5 c1_i32_932
  let c0_i32_937 : BitVec 32 := 0#32
  let v1988 : BitVec 1 := Scalar.cmpi .ne v1987 c0_i32_937
  let v1989 : BitVec 1 := Scalar.andi v1986 v1988
  let v1975 : BitVec 32 := Scalar.divsi arg5 c1_i32_932
  let c1_i32_938 : BitVec 32 := 1#32
  let v1990 : BitVec 32 := Scalar.subi v1975 c1_i32_938
  let v1991 : BitVec 32 := Scalar.select v1989 v1990 v1975
  let c2_i32_940 : BitVec 32 := 2#32
  let v1994 : BitVec 32 := Scalar.muli v1991 c2_i32_940
  let c1_i32_941 : BitVec 32 := 1#32
  let v1995 : BitVec 32 := Scalar.muli v1994 c1_i32_941
  let c1_i32_939 : BitVec 32 := 1#32
  let v1992 : BitVec 32 := Scalar.muli v1991 c1_i32_939
  let v1993 : BitVec 32 := Scalar.subi arg5 v1992
  let v1996 : BitVec 32 := Scalar.addi v1995 v1993
  let c1024_i32_942 : BitVec 32 := 1024#32
  let v1997 : BitVec 32 := Scalar.muli v1996 c1024_i32_942
  let v1999 : Index := Scalar.indexCast v1997
  let c0_944 : Index := 0#32
  ![v1999.toNat, 0]
def k0_off4 (k0_t1 : Fin k0_t1_loop.trips) : Fin 2 → Nat :=
  let c0_i32_848 : BitVec 32 := 0#32
  let c1_i32_850 : BitVec 32 := 1#32
  let arg5 : BitVec 32 := Scf.iv c0_i32_848 c1_i32_850 k0_t1
  let c0_i32_933 : BitVec 32 := 0#32
  let v1976 : BitVec 1 := Scalar.cmpi .sgt arg5 c0_i32_933
  let v1977 : BitVec 32 := Scalar.extui v1976
  let c0_i32_934 : BitVec 32 := 0#32
  let v1978 : BitVec 1 := Scalar.cmpi .slt arg5 c0_i32_934
  let v1979 : BitVec 32 := Scalar.extui v1978
  let v1980 : BitVec 32 := Scalar.subi v1977 v1979
  let c1_i32_932 : BitVec 32 := 1#32
  let c0_i32_935 : BitVec 32 := 0#32
  let v1981 : BitVec 1 := Scalar.cmpi .sgt c1_i32_932 c0_i32_935
  let v1982 : BitVec 32 := Scalar.extui v1981
  let c0_i32_936 : BitVec 32 := 0#32
  let v1983 : BitVec 1 := Scalar.cmpi .slt c1_i32_932 c0_i32_936
  let v1984 : BitVec 32 := Scalar.extui v1983
  let v1985 : BitVec 32 := Scalar.subi v1982 v1984
  let v1986 : BitVec 1 := Scalar.cmpi .ne v1980 v1985
  let v1987 : BitVec 32 := Scalar.remsi arg5 c1_i32_932
  let c0_i32_937 : BitVec 32 := 0#32
  let v1988 : BitVec 1 := Scalar.cmpi .ne v1987 c0_i32_937
  let v1989 : BitVec 1 := Scalar.andi v1986 v1988
  let v1975 : BitVec 32 := Scalar.divsi arg5 c1_i32_932
  let c1_i32_938 : BitVec 32 := 1#32
  let v1990 : BitVec 32 := Scalar.subi v1975 c1_i32_938
  let v1991 : BitVec 32 := Scalar.select v1989 v1990 v1975
  let c2_i32_940 : BitVec 32 := 2#32
  let v1994 : BitVec 32 := Scalar.muli v1991 c2_i32_940
  let c1_i32_941 : BitVec 32 := 1#32
  let v1995 : BitVec 32 := Scalar.muli v1994 c1_i32_941
  let c1_i32_939 : BitVec 32 := 1#32
  let v1992 : BitVec 32 := Scalar.muli v1991 c1_i32_939
  let v1993 : BitVec 32 := Scalar.subi arg5 v1992
  let v1996 : BitVec 32 := Scalar.addi v1995 v1993
  let c1024_i32_942 : BitVec 32 := 1024#32
  let v1997 : BitVec 32 := Scalar.muli v1996 c1024_i32_942
  let c1024_i32_943 : BitVec 32 := 1024#32
  let v1998 : BitVec 32 := Scalar.addi v1997 c1024_i32_943
  let v2001 : Index := Scalar.indexCast v1998
  let c0_945 : Index := 0#32
  ![v2001.toNat, 0]
@[reducible] def k0_t2_loop : Scf.Loop 32 :=
  let c0_i32_852 : BitVec 32 := 0#32
  let c32_i32_853 : BitVec 32 := 32#32
  let v1952 : BitVec 32 := Scalar.addi c0_i32_852 c32_i32_853
  let c1_i32_854 : BitVec 32 := 1#32
  ⟨c0_i32_852, v1952, c1_i32_854⟩
def k0_off5 (k0_t2 : Fin k0_t2_loop.trips) : Fin 2 → Nat :=
  let c0_i32_852 : BitVec 32 := 0#32
  let c1_i32_854 : BitVec 32 := 1#32
  let arg5 : BitVec 32 := Scf.iv c0_i32_852 c1_i32_854 k0_t2
  let c1024_i32_932 : BitVec 32 := 1024#32
  let v1975 : BitVec 32 := Scalar.muli arg5 c1024_i32_932
  let v1976 : Index := Scalar.indexCast v1975
  let c0_933 : Index := 0#32
  ![v1976.toNat, 0]
@[reducible] def k0_t3_loop : Scf.Loop 32 :=
  let c0_i32_856 : BitVec 32 := 0#32
  let c16_i32_857 : BitVec 32 := 16#32
  let v1953 : BitVec 32 := Scalar.addi c0_i32_856 c16_i32_857
  let c1_i32_858 : BitVec 32 := 1#32
  ⟨c0_i32_856, v1953, c1_i32_858⟩
def k0_off6 (k0_t3 : Fin k0_t3_loop.trips) : Fin 2 → Nat :=
  let c0_i32_856 : BitVec 32 := 0#32
  let c1_i32_858 : BitVec 32 := 1#32
  let arg5 : BitVec 32 := Scf.iv c0_i32_856 c1_i32_858 k0_t3
  let c0_i32_933 : BitVec 32 := 0#32
  let v1976 : BitVec 1 := Scalar.cmpi .sgt arg5 c0_i32_933
  let v1977 : BitVec 32 := Scalar.extui v1976
  let c0_i32_934 : BitVec 32 := 0#32
  let v1978 : BitVec 1 := Scalar.cmpi .slt arg5 c0_i32_934
  let v1979 : BitVec 32 := Scalar.extui v1978
  let v1980 : BitVec 32 := Scalar.subi v1977 v1979
  let c2_i32_932 : BitVec 32 := 2#32
  let c0_i32_935 : BitVec 32 := 0#32
  let v1981 : BitVec 1 := Scalar.cmpi .sgt c2_i32_932 c0_i32_935
  let v1982 : BitVec 32 := Scalar.extui v1981
  let c0_i32_936 : BitVec 32 := 0#32
  let v1983 : BitVec 1 := Scalar.cmpi .slt c2_i32_932 c0_i32_936
  let v1984 : BitVec 32 := Scalar.extui v1983
  let v1985 : BitVec 32 := Scalar.subi v1982 v1984
  let v1986 : BitVec 1 := Scalar.cmpi .ne v1980 v1985
  let v1987 : BitVec 32 := Scalar.remsi arg5 c2_i32_932
  let c0_i32_937 : BitVec 32 := 0#32
  let v1988 : BitVec 1 := Scalar.cmpi .ne v1987 c0_i32_937
  let v1989 : BitVec 1 := Scalar.andi v1986 v1988
  let v1975 : BitVec 32 := Scalar.divsi arg5 c2_i32_932
  let c1_i32_938 : BitVec 32 := 1#32
  let v1990 : BitVec 32 := Scalar.subi v1975 c1_i32_938
  let v1991 : BitVec 32 := Scalar.select v1989 v1990 v1975
  let c2_i32_940 : BitVec 32 := 2#32
  let v1994 : BitVec 32 := Scalar.muli v1991 c2_i32_940
  let c2_i32_941 : BitVec 32 := 2#32
  let v1995 : BitVec 32 := Scalar.muli v1994 c2_i32_941
  let c2_i32_939 : BitVec 32 := 2#32
  let v1992 : BitVec 32 := Scalar.muli v1991 c2_i32_939
  let v1993 : BitVec 32 := Scalar.subi arg5 v1992
  let v1996 : BitVec 32 := Scalar.addi v1995 v1993
  let c1024_i32_942 : BitVec 32 := 1024#32
  let v1997 : BitVec 32 := Scalar.muli v1996 c1024_i32_942
  let v1999 : Index := Scalar.indexCast v1997
  let c0_943 : Index := 0#32
  ![v1999.toNat, 0]
def k0_off7 (k0_t3 : Fin k0_t3_loop.trips) : Fin 2 → Nat :=
  let c0_i32_856 : BitVec 32 := 0#32
  let c1_i32_858 : BitVec 32 := 1#32
  let arg5 : BitVec 32 := Scf.iv c0_i32_856 c1_i32_858 k0_t3
  let c0_i32_933 : BitVec 32 := 0#32
  let v1976 : BitVec 1 := Scalar.cmpi .sgt arg5 c0_i32_933
  let v1977 : BitVec 32 := Scalar.extui v1976
  let c0_i32_934 : BitVec 32 := 0#32
  let v1978 : BitVec 1 := Scalar.cmpi .slt arg5 c0_i32_934
  let v1979 : BitVec 32 := Scalar.extui v1978
  let v1980 : BitVec 32 := Scalar.subi v1977 v1979
  let c2_i32_932 : BitVec 32 := 2#32
  let c0_i32_935 : BitVec 32 := 0#32
  let v1981 : BitVec 1 := Scalar.cmpi .sgt c2_i32_932 c0_i32_935
  let v1982 : BitVec 32 := Scalar.extui v1981
  let c0_i32_936 : BitVec 32 := 0#32
  let v1983 : BitVec 1 := Scalar.cmpi .slt c2_i32_932 c0_i32_936
  let v1984 : BitVec 32 := Scalar.extui v1983
  let v1985 : BitVec 32 := Scalar.subi v1982 v1984
  let v1986 : BitVec 1 := Scalar.cmpi .ne v1980 v1985
  let v1987 : BitVec 32 := Scalar.remsi arg5 c2_i32_932
  let c0_i32_937 : BitVec 32 := 0#32
  let v1988 : BitVec 1 := Scalar.cmpi .ne v1987 c0_i32_937
  let v1989 : BitVec 1 := Scalar.andi v1986 v1988
  let v1975 : BitVec 32 := Scalar.divsi arg5 c2_i32_932
  let c1_i32_938 : BitVec 32 := 1#32
  let v1990 : BitVec 32 := Scalar.subi v1975 c1_i32_938
  let v1991 : BitVec 32 := Scalar.select v1989 v1990 v1975
  let c2_i32_940 : BitVec 32 := 2#32
  let v1994 : BitVec 32 := Scalar.muli v1991 c2_i32_940
  let c2_i32_941 : BitVec 32 := 2#32
  let v1995 : BitVec 32 := Scalar.muli v1994 c2_i32_941
  let c2_i32_939 : BitVec 32 := 2#32
  let v1992 : BitVec 32 := Scalar.muli v1991 c2_i32_939
  let v1993 : BitVec 32 := Scalar.subi arg5 v1992
  let v1996 : BitVec 32 := Scalar.addi v1995 v1993
  let c1024_i32_942 : BitVec 32 := 1024#32
  let v1997 : BitVec 32 := Scalar.muli v1996 c1024_i32_942
  let c2048_i32 : BitVec 32 := 2048#32
  let v1998 : BitVec 32 := Scalar.addi v1997 c2048_i32
  let v2001 : Index := Scalar.indexCast v1998
  let c0_944 : Index := 0#32
  ![v2001.toNat, 0]
@[reducible] def k0_t4_loop : Scf.Loop 32 :=
  let c0_i32_860 : BitVec 32 := 0#32
  let c16_i32_861 : BitVec 32 := 16#32
  let v1954 : BitVec 32 := Scalar.addi c0_i32_860 c16_i32_861
  let c1_i32_862 : BitVec 32 := 1#32
  ⟨c0_i32_860, v1954, c1_i32_862⟩
def k0_off8 (k0_t4 : Fin k0_t4_loop.trips) : Fin 2 → Nat :=
  let c0_i32_860 : BitVec 32 := 0#32
  let c1_i32_862 : BitVec 32 := 1#32
  let arg5 : BitVec 32 := Scf.iv c0_i32_860 c1_i32_862 k0_t4
  let c0_i32_933 : BitVec 32 := 0#32
  let v1976 : BitVec 1 := Scalar.cmpi .sgt arg5 c0_i32_933
  let v1977 : BitVec 32 := Scalar.extui v1976
  let c0_i32_934 : BitVec 32 := 0#32
  let v1978 : BitVec 1 := Scalar.cmpi .slt arg5 c0_i32_934
  let v1979 : BitVec 32 := Scalar.extui v1978
  let v1980 : BitVec 32 := Scalar.subi v1977 v1979
  let c1_i32_932 : BitVec 32 := 1#32
  let c0_i32_935 : BitVec 32 := 0#32
  let v1981 : BitVec 1 := Scalar.cmpi .sgt c1_i32_932 c0_i32_935
  let v1982 : BitVec 32 := Scalar.extui v1981
  let c0_i32_936 : BitVec 32 := 0#32
  let v1983 : BitVec 1 := Scalar.cmpi .slt c1_i32_932 c0_i32_936
  let v1984 : BitVec 32 := Scalar.extui v1983
  let v1985 : BitVec 32 := Scalar.subi v1982 v1984
  let v1986 : BitVec 1 := Scalar.cmpi .ne v1980 v1985
  let v1987 : BitVec 32 := Scalar.remsi arg5 c1_i32_932
  let c0_i32_937 : BitVec 32 := 0#32
  let v1988 : BitVec 1 := Scalar.cmpi .ne v1987 c0_i32_937
  let v1989 : BitVec 1 := Scalar.andi v1986 v1988
  let v1975 : BitVec 32 := Scalar.divsi arg5 c1_i32_932
  let c1_i32_938 : BitVec 32 := 1#32
  let v1990 : BitVec 32 := Scalar.subi v1975 c1_i32_938
  let v1991 : BitVec 32 := Scalar.select v1989 v1990 v1975
  let c2_i32_940 : BitVec 32 := 2#32
  let v1994 : BitVec 32 := Scalar.muli v1991 c2_i32_940
  let c1_i32_941 : BitVec 32 := 1#32
  let v1995 : BitVec 32 := Scalar.muli v1994 c1_i32_941
  let c1_i32_939 : BitVec 32 := 1#32
  let v1992 : BitVec 32 := Scalar.muli v1991 c1_i32_939
  let v1993 : BitVec 32 := Scalar.subi arg5 v1992
  let v1996 : BitVec 32 := Scalar.addi v1995 v1993
  let c1024_i32_942 : BitVec 32 := 1024#32
  let v1997 : BitVec 32 := Scalar.muli v1996 c1024_i32_942
  let v1999 : Index := Scalar.indexCast v1997
  let c0_944 : Index := 0#32
  ![v1999.toNat, 0]
def k0_off9 (k0_t4 : Fin k0_t4_loop.trips) : Fin 2 → Nat :=
  let c0_i32_860 : BitVec 32 := 0#32
  let c1_i32_862 : BitVec 32 := 1#32
  let arg5 : BitVec 32 := Scf.iv c0_i32_860 c1_i32_862 k0_t4
  let c0_i32_933 : BitVec 32 := 0#32
  let v1976 : BitVec 1 := Scalar.cmpi .sgt arg5 c0_i32_933
  let v1977 : BitVec 32 := Scalar.extui v1976
  let c0_i32_934 : BitVec 32 := 0#32
  let v1978 : BitVec 1 := Scalar.cmpi .slt arg5 c0_i32_934
  let v1979 : BitVec 32 := Scalar.extui v1978
  let v1980 : BitVec 32 := Scalar.subi v1977 v1979
  let c1_i32_932 : BitVec 32 := 1#32
  let c0_i32_935 : BitVec 32 := 0#32
  let v1981 : BitVec 1 := Scalar.cmpi .sgt c1_i32_932 c0_i32_935
  let v1982 : BitVec 32 := Scalar.extui v1981
  let c0_i32_936 : BitVec 32 := 0#32
  let v1983 : BitVec 1 := Scalar.cmpi .slt c1_i32_932 c0_i32_936
  let v1984 : BitVec 32 := Scalar.extui v1983
  let v1985 : BitVec 32 := Scalar.subi v1982 v1984
  let v1986 : BitVec 1 := Scalar.cmpi .ne v1980 v1985
  let v1987 : BitVec 32 := Scalar.remsi arg5 c1_i32_932
  let c0_i32_937 : BitVec 32 := 0#32
  let v1988 : BitVec 1 := Scalar.cmpi .ne v1987 c0_i32_937
  let v1989 : BitVec 1 := Scalar.andi v1986 v1988
  let v1975 : BitVec 32 := Scalar.divsi arg5 c1_i32_932
  let c1_i32_938 : BitVec 32 := 1#32
  let v1990 : BitVec 32 := Scalar.subi v1975 c1_i32_938
  let v1991 : BitVec 32 := Scalar.select v1989 v1990 v1975
  let c2_i32_940 : BitVec 32 := 2#32
  let v1994 : BitVec 32 := Scalar.muli v1991 c2_i32_940
  let c1_i32_941 : BitVec 32 := 1#32
  let v1995 : BitVec 32 := Scalar.muli v1994 c1_i32_941
  let c1_i32_939 : BitVec 32 := 1#32
  let v1992 : BitVec 32 := Scalar.muli v1991 c1_i32_939
  let v1993 : BitVec 32 := Scalar.subi arg5 v1992
  let v1996 : BitVec 32 := Scalar.addi v1995 v1993
  let c1024_i32_942 : BitVec 32 := 1024#32
  let v1997 : BitVec 32 := Scalar.muli v1996 c1024_i32_942
  let c1024_i32_943 : BitVec 32 := 1024#32
  let v1998 : BitVec 32 := Scalar.addi v1997 c1024_i32_943
  let v2001 : Index := Scalar.indexCast v1998
  let c0_945 : Index := 0#32
  ![v2001.toNat, 0]
@[reducible] def k0_t5_loop : Scf.Loop 32 :=
  let c0_i32_864 : BitVec 32 := 0#32
  let c32_i32_865 : BitVec 32 := 32#32
  let v1955 : BitVec 32 := Scalar.addi c0_i32_864 c32_i32_865
  let c1_i32_866 : BitVec 32 := 1#32
  ⟨c0_i32_864, v1955, c1_i32_866⟩
def k0_off10 (k0_t5 : Fin k0_t5_loop.trips) : Fin 2 → Nat :=
  let c0_i32_864 : BitVec 32 := 0#32
  let c1_i32_866 : BitVec 32 := 1#32
  let arg5 : BitVec 32 := Scf.iv c0_i32_864 c1_i32_866 k0_t5
  let c1024_i32_932 : BitVec 32 := 1024#32
  let v1975 : BitVec 32 := Scalar.muli arg5 c1024_i32_932
  let v1976 : Index := Scalar.indexCast v1975
  let c0_933 : Index := 0#32
  ![v1976.toNat, 0]
@[reducible] def k0_t6_loop : Scf.Loop 32 :=
  let c0_i32_868 : BitVec 32 := 0#32
  let c16_i32_869 : BitVec 32 := 16#32
  let v1956 : BitVec 32 := Scalar.addi c0_i32_868 c16_i32_869
  let c1_i32_870 : BitVec 32 := 1#32
  ⟨c0_i32_868, v1956, c1_i32_870⟩
def k0_off11 (k0_t6 : Fin k0_t6_loop.trips) : Fin 2 → Nat :=
  let c0_i32_868 : BitVec 32 := 0#32
  let c1_i32_870 : BitVec 32 := 1#32
  let arg5 : BitVec 32 := Scf.iv c0_i32_868 c1_i32_870 k0_t6
  let c0_i32_933 : BitVec 32 := 0#32
  let v1976 : BitVec 1 := Scalar.cmpi .sgt arg5 c0_i32_933
  let v1977 : BitVec 32 := Scalar.extui v1976
  let c0_i32_934 : BitVec 32 := 0#32
  let v1978 : BitVec 1 := Scalar.cmpi .slt arg5 c0_i32_934
  let v1979 : BitVec 32 := Scalar.extui v1978
  let v1980 : BitVec 32 := Scalar.subi v1977 v1979
  let c4_i32_932 : BitVec 32 := 4#32
  let c0_i32_935 : BitVec 32 := 0#32
  let v1981 : BitVec 1 := Scalar.cmpi .sgt c4_i32_932 c0_i32_935
  let v1982 : BitVec 32 := Scalar.extui v1981
  let c0_i32_936 : BitVec 32 := 0#32
  let v1983 : BitVec 1 := Scalar.cmpi .slt c4_i32_932 c0_i32_936
  let v1984 : BitVec 32 := Scalar.extui v1983
  let v1985 : BitVec 32 := Scalar.subi v1982 v1984
  let v1986 : BitVec 1 := Scalar.cmpi .ne v1980 v1985
  let v1987 : BitVec 32 := Scalar.remsi arg5 c4_i32_932
  let c0_i32_937 : BitVec 32 := 0#32
  let v1988 : BitVec 1 := Scalar.cmpi .ne v1987 c0_i32_937
  let v1989 : BitVec 1 := Scalar.andi v1986 v1988
  let v1975 : BitVec 32 := Scalar.divsi arg5 c4_i32_932
  let c1_i32_938 : BitVec 32 := 1#32
  let v1990 : BitVec 32 := Scalar.subi v1975 c1_i32_938
  let v1991 : BitVec 32 := Scalar.select v1989 v1990 v1975
  let c2_i32_940 : BitVec 32 := 2#32
  let v1994 : BitVec 32 := Scalar.muli v1991 c2_i32_940
  let c4_i32_941 : BitVec 32 := 4#32
  let v1995 : BitVec 32 := Scalar.muli v1994 c4_i32_941
  let c4_i32_939 : BitVec 32 := 4#32
  let v1992 : BitVec 32 := Scalar.muli v1991 c4_i32_939
  let v1993 : BitVec 32 := Scalar.subi arg5 v1992
  let v1996 : BitVec 32 := Scalar.addi v1995 v1993
  let c1024_i32_942 : BitVec 32 := 1024#32
  let v1997 : BitVec 32 := Scalar.muli v1996 c1024_i32_942
  let v1999 : Index := Scalar.indexCast v1997
  let c0_943 : Index := 0#32
  ![v1999.toNat, 0]
def k0_off12 (k0_t6 : Fin k0_t6_loop.trips) : Fin 2 → Nat :=
  let c0_i32_868 : BitVec 32 := 0#32
  let c1_i32_870 : BitVec 32 := 1#32
  let arg5 : BitVec 32 := Scf.iv c0_i32_868 c1_i32_870 k0_t6
  let c0_i32_933 : BitVec 32 := 0#32
  let v1976 : BitVec 1 := Scalar.cmpi .sgt arg5 c0_i32_933
  let v1977 : BitVec 32 := Scalar.extui v1976
  let c0_i32_934 : BitVec 32 := 0#32
  let v1978 : BitVec 1 := Scalar.cmpi .slt arg5 c0_i32_934
  let v1979 : BitVec 32 := Scalar.extui v1978
  let v1980 : BitVec 32 := Scalar.subi v1977 v1979
  let c4_i32_932 : BitVec 32 := 4#32
  let c0_i32_935 : BitVec 32 := 0#32
  let v1981 : BitVec 1 := Scalar.cmpi .sgt c4_i32_932 c0_i32_935
  let v1982 : BitVec 32 := Scalar.extui v1981
  let c0_i32_936 : BitVec 32 := 0#32
  let v1983 : BitVec 1 := Scalar.cmpi .slt c4_i32_932 c0_i32_936
  let v1984 : BitVec 32 := Scalar.extui v1983
  let v1985 : BitVec 32 := Scalar.subi v1982 v1984
  let v1986 : BitVec 1 := Scalar.cmpi .ne v1980 v1985
  let v1987 : BitVec 32 := Scalar.remsi arg5 c4_i32_932
  let c0_i32_937 : BitVec 32 := 0#32
  let v1988 : BitVec 1 := Scalar.cmpi .ne v1987 c0_i32_937
  let v1989 : BitVec 1 := Scalar.andi v1986 v1988
  let v1975 : BitVec 32 := Scalar.divsi arg5 c4_i32_932
  let c1_i32_938 : BitVec 32 := 1#32
  let v1990 : BitVec 32 := Scalar.subi v1975 c1_i32_938
  let v1991 : BitVec 32 := Scalar.select v1989 v1990 v1975
  let c2_i32_940 : BitVec 32 := 2#32
  let v1994 : BitVec 32 := Scalar.muli v1991 c2_i32_940
  let c4_i32_941 : BitVec 32 := 4#32
  let v1995 : BitVec 32 := Scalar.muli v1994 c4_i32_941
  let c4_i32_939 : BitVec 32 := 4#32
  let v1992 : BitVec 32 := Scalar.muli v1991 c4_i32_939
  let v1993 : BitVec 32 := Scalar.subi arg5 v1992
  let v1996 : BitVec 32 := Scalar.addi v1995 v1993
  let c1024_i32_942 : BitVec 32 := 1024#32
  let v1997 : BitVec 32 := Scalar.muli v1996 c1024_i32_942
  let c4096_i32 : BitVec 32 := 4096#32
  let v1998 : BitVec 32 := Scalar.addi v1997 c4096_i32
  let v2001 : Index := Scalar.indexCast v1998
  let c0_944 : Index := 0#32
  ![v2001.toNat, 0]
@[reducible] def k0_t7_loop : Scf.Loop 32 :=
  let c0_i32_872 : BitVec 32 := 0#32
  let c16_i32_873 : BitVec 32 := 16#32
  let v1957 : BitVec 32 := Scalar.addi c0_i32_872 c16_i32_873
  let c1_i32_874 : BitVec 32 := 1#32
  ⟨c0_i32_872, v1957, c1_i32_874⟩
def k0_off13 (k0_t7 : Fin k0_t7_loop.trips) : Fin 2 → Nat :=
  let c0_i32_872 : BitVec 32 := 0#32
  let c1_i32_874 : BitVec 32 := 1#32
  let arg5 : BitVec 32 := Scf.iv c0_i32_872 c1_i32_874 k0_t7
  let c0_i32_933 : BitVec 32 := 0#32
  let v1976 : BitVec 1 := Scalar.cmpi .sgt arg5 c0_i32_933
  let v1977 : BitVec 32 := Scalar.extui v1976
  let c0_i32_934 : BitVec 32 := 0#32
  let v1978 : BitVec 1 := Scalar.cmpi .slt arg5 c0_i32_934
  let v1979 : BitVec 32 := Scalar.extui v1978
  let v1980 : BitVec 32 := Scalar.subi v1977 v1979
  let c2_i32_932 : BitVec 32 := 2#32
  let c0_i32_935 : BitVec 32 := 0#32
  let v1981 : BitVec 1 := Scalar.cmpi .sgt c2_i32_932 c0_i32_935
  let v1982 : BitVec 32 := Scalar.extui v1981
  let c0_i32_936 : BitVec 32 := 0#32
  let v1983 : BitVec 1 := Scalar.cmpi .slt c2_i32_932 c0_i32_936
  let v1984 : BitVec 32 := Scalar.extui v1983
  let v1985 : BitVec 32 := Scalar.subi v1982 v1984
  let v1986 : BitVec 1 := Scalar.cmpi .ne v1980 v1985
  let v1987 : BitVec 32 := Scalar.remsi arg5 c2_i32_932
  let c0_i32_937 : BitVec 32 := 0#32
  let v1988 : BitVec 1 := Scalar.cmpi .ne v1987 c0_i32_937
  let v1989 : BitVec 1 := Scalar.andi v1986 v1988
  let v1975 : BitVec 32 := Scalar.divsi arg5 c2_i32_932
  let c1_i32_938 : BitVec 32 := 1#32
  let v1990 : BitVec 32 := Scalar.subi v1975 c1_i32_938
  let v1991 : BitVec 32 := Scalar.select v1989 v1990 v1975
  let c2_i32_940 : BitVec 32 := 2#32
  let v1994 : BitVec 32 := Scalar.muli v1991 c2_i32_940
  let c2_i32_941 : BitVec 32 := 2#32
  let v1995 : BitVec 32 := Scalar.muli v1994 c2_i32_941
  let c2_i32_939 : BitVec 32 := 2#32
  let v1992 : BitVec 32 := Scalar.muli v1991 c2_i32_939
  let v1993 : BitVec 32 := Scalar.subi arg5 v1992
  let v1996 : BitVec 32 := Scalar.addi v1995 v1993
  let c1024_i32_942 : BitVec 32 := 1024#32
  let v1997 : BitVec 32 := Scalar.muli v1996 c1024_i32_942
  let v1999 : Index := Scalar.indexCast v1997
  let c0_943 : Index := 0#32
  ![v1999.toNat, 0]
def k0_off14 (k0_t7 : Fin k0_t7_loop.trips) : Fin 2 → Nat :=
  let c0_i32_872 : BitVec 32 := 0#32
  let c1_i32_874 : BitVec 32 := 1#32
  let arg5 : BitVec 32 := Scf.iv c0_i32_872 c1_i32_874 k0_t7
  let c0_i32_933 : BitVec 32 := 0#32
  let v1976 : BitVec 1 := Scalar.cmpi .sgt arg5 c0_i32_933
  let v1977 : BitVec 32 := Scalar.extui v1976
  let c0_i32_934 : BitVec 32 := 0#32
  let v1978 : BitVec 1 := Scalar.cmpi .slt arg5 c0_i32_934
  let v1979 : BitVec 32 := Scalar.extui v1978
  let v1980 : BitVec 32 := Scalar.subi v1977 v1979
  let c2_i32_932 : BitVec 32 := 2#32
  let c0_i32_935 : BitVec 32 := 0#32
  let v1981 : BitVec 1 := Scalar.cmpi .sgt c2_i32_932 c0_i32_935
  let v1982 : BitVec 32 := Scalar.extui v1981
  let c0_i32_936 : BitVec 32 := 0#32
  let v1983 : BitVec 1 := Scalar.cmpi .slt c2_i32_932 c0_i32_936
  let v1984 : BitVec 32 := Scalar.extui v1983
  let v1985 : BitVec 32 := Scalar.subi v1982 v1984
  let v1986 : BitVec 1 := Scalar.cmpi .ne v1980 v1985
  let v1987 : BitVec 32 := Scalar.remsi arg5 c2_i32_932
  let c0_i32_937 : BitVec 32 := 0#32
  let v1988 : BitVec 1 := Scalar.cmpi .ne v1987 c0_i32_937
  let v1989 : BitVec 1 := Scalar.andi v1986 v1988
  let v1975 : BitVec 32 := Scalar.divsi arg5 c2_i32_932
  let c1_i32_938 : BitVec 32 := 1#32
  let v1990 : BitVec 32 := Scalar.subi v1975 c1_i32_938
  let v1991 : BitVec 32 := Scalar.select v1989 v1990 v1975
  let c2_i32_940 : BitVec 32 := 2#32
  let v1994 : BitVec 32 := Scalar.muli v1991 c2_i32_940
  let c2_i32_941 : BitVec 32 := 2#32
  let v1995 : BitVec 32 := Scalar.muli v1994 c2_i32_941
  let c2_i32_939 : BitVec 32 := 2#32
  let v1992 : BitVec 32 := Scalar.muli v1991 c2_i32_939
  let v1993 : BitVec 32 := Scalar.subi arg5 v1992
  let v1996 : BitVec 32 := Scalar.addi v1995 v1993
  let c1024_i32_942 : BitVec 32 := 1024#32
  let v1997 : BitVec 32 := Scalar.muli v1996 c1024_i32_942
  let c2048_i32 : BitVec 32 := 2048#32
  let v1998 : BitVec 32 := Scalar.addi v1997 c2048_i32
  let v2001 : Index := Scalar.indexCast v1998
  let c0_944 : Index := 0#32
  ![v2001.toNat, 0]
@[reducible] def k0_t8_loop : Scf.Loop 32 :=
  let c0_i32_876 : BitVec 32 := 0#32
  let c16_i32_877 : BitVec 32 := 16#32
  let v1958 : BitVec 32 := Scalar.addi c0_i32_876 c16_i32_877
  let c1_i32_878 : BitVec 32 := 1#32
  ⟨c0_i32_876, v1958, c1_i32_878⟩
def k0_off15 (k0_t8 : Fin k0_t8_loop.trips) : Fin 2 → Nat :=
  let c0_i32_876 : BitVec 32 := 0#32
  let c1_i32_878 : BitVec 32 := 1#32
  let arg5 : BitVec 32 := Scf.iv c0_i32_876 c1_i32_878 k0_t8
  let c0_i32_933 : BitVec 32 := 0#32
  let v1976 : BitVec 1 := Scalar.cmpi .sgt arg5 c0_i32_933
  let v1977 : BitVec 32 := Scalar.extui v1976
  let c0_i32_934 : BitVec 32 := 0#32
  let v1978 : BitVec 1 := Scalar.cmpi .slt arg5 c0_i32_934
  let v1979 : BitVec 32 := Scalar.extui v1978
  let v1980 : BitVec 32 := Scalar.subi v1977 v1979
  let c1_i32_932 : BitVec 32 := 1#32
  let c0_i32_935 : BitVec 32 := 0#32
  let v1981 : BitVec 1 := Scalar.cmpi .sgt c1_i32_932 c0_i32_935
  let v1982 : BitVec 32 := Scalar.extui v1981
  let c0_i32_936 : BitVec 32 := 0#32
  let v1983 : BitVec 1 := Scalar.cmpi .slt c1_i32_932 c0_i32_936
  let v1984 : BitVec 32 := Scalar.extui v1983
  let v1985 : BitVec 32 := Scalar.subi v1982 v1984
  let v1986 : BitVec 1 := Scalar.cmpi .ne v1980 v1985
  let v1987 : BitVec 32 := Scalar.remsi arg5 c1_i32_932
  let c0_i32_937 : BitVec 32 := 0#32
  let v1988 : BitVec 1 := Scalar.cmpi .ne v1987 c0_i32_937
  let v1989 : BitVec 1 := Scalar.andi v1986 v1988
  let v1975 : BitVec 32 := Scalar.divsi arg5 c1_i32_932
  let c1_i32_938 : BitVec 32 := 1#32
  let v1990 : BitVec 32 := Scalar.subi v1975 c1_i32_938
  let v1991 : BitVec 32 := Scalar.select v1989 v1990 v1975
  let c2_i32_940 : BitVec 32 := 2#32
  let v1994 : BitVec 32 := Scalar.muli v1991 c2_i32_940
  let c1_i32_941 : BitVec 32 := 1#32
  let v1995 : BitVec 32 := Scalar.muli v1994 c1_i32_941
  let c1_i32_939 : BitVec 32 := 1#32
  let v1992 : BitVec 32 := Scalar.muli v1991 c1_i32_939
  let v1993 : BitVec 32 := Scalar.subi arg5 v1992
  let v1996 : BitVec 32 := Scalar.addi v1995 v1993
  let c1024_i32_942 : BitVec 32 := 1024#32
  let v1997 : BitVec 32 := Scalar.muli v1996 c1024_i32_942
  let v1999 : Index := Scalar.indexCast v1997
  let c0_944 : Index := 0#32
  ![v1999.toNat, 0]
def k0_off16 (k0_t8 : Fin k0_t8_loop.trips) : Fin 2 → Nat :=
  let c0_i32_876 : BitVec 32 := 0#32
  let c1_i32_878 : BitVec 32 := 1#32
  let arg5 : BitVec 32 := Scf.iv c0_i32_876 c1_i32_878 k0_t8
  let c0_i32_933 : BitVec 32 := 0#32
  let v1976 : BitVec 1 := Scalar.cmpi .sgt arg5 c0_i32_933
  let v1977 : BitVec 32 := Scalar.extui v1976
  let c0_i32_934 : BitVec 32 := 0#32
  let v1978 : BitVec 1 := Scalar.cmpi .slt arg5 c0_i32_934
  let v1979 : BitVec 32 := Scalar.extui v1978
  let v1980 : BitVec 32 := Scalar.subi v1977 v1979
  let c1_i32_932 : BitVec 32 := 1#32
  let c0_i32_935 : BitVec 32 := 0#32
  let v1981 : BitVec 1 := Scalar.cmpi .sgt c1_i32_932 c0_i32_935
  let v1982 : BitVec 32 := Scalar.extui v1981
  let c0_i32_936 : BitVec 32 := 0#32
  let v1983 : BitVec 1 := Scalar.cmpi .slt c1_i32_932 c0_i32_936
  let v1984 : BitVec 32 := Scalar.extui v1983
  let v1985 : BitVec 32 := Scalar.subi v1982 v1984
  let v1986 : BitVec 1 := Scalar.cmpi .ne v1980 v1985
  let v1987 : BitVec 32 := Scalar.remsi arg5 c1_i32_932
  let c0_i32_937 : BitVec 32 := 0#32
  let v1988 : BitVec 1 := Scalar.cmpi .ne v1987 c0_i32_937
  let v1989 : BitVec 1 := Scalar.andi v1986 v1988
  let v1975 : BitVec 32 := Scalar.divsi arg5 c1_i32_932
  let c1_i32_938 : BitVec 32 := 1#32
  let v1990 : BitVec 32 := Scalar.subi v1975 c1_i32_938
  let v1991 : BitVec 32 := Scalar.select v1989 v1990 v1975
  let c2_i32_940 : BitVec 32 := 2#32
  let v1994 : BitVec 32 := Scalar.muli v1991 c2_i32_940
  let c1_i32_941 : BitVec 32 := 1#32
  let v1995 : BitVec 32 := Scalar.muli v1994 c1_i32_941
  let c1_i32_939 : BitVec 32 := 1#32
  let v1992 : BitVec 32 := Scalar.muli v1991 c1_i32_939
  let v1993 : BitVec 32 := Scalar.subi arg5 v1992
  let v1996 : BitVec 32 := Scalar.addi v1995 v1993
  let c1024_i32_942 : BitVec 32 := 1024#32
  let v1997 : BitVec 32 := Scalar.muli v1996 c1024_i32_942
  let c1024_i32_943 : BitVec 32 := 1024#32
  let v1998 : BitVec 32 := Scalar.addi v1997 c1024_i32_943
  let v2001 : Index := Scalar.indexCast v1998
  let c0_945 : Index := 0#32
  ![v2001.toNat, 0]
@[reducible] def k0_t9_loop : Scf.Loop 32 :=
  let c0_i32_880 : BitVec 32 := 0#32
  let c32_i32_881 : BitVec 32 := 32#32
  let v1959 : BitVec 32 := Scalar.addi c0_i32_880 c32_i32_881
  let c1_i32_882 : BitVec 32 := 1#32
  ⟨c0_i32_880, v1959, c1_i32_882⟩
def k0_off17 (k0_t9 : Fin k0_t9_loop.trips) : Fin 2 → Nat :=
  let c0_i32_880 : BitVec 32 := 0#32
  let c1_i32_882 : BitVec 32 := 1#32
  let arg5 : BitVec 32 := Scf.iv c0_i32_880 c1_i32_882 k0_t9
  let c1024_i32_932 : BitVec 32 := 1024#32
  let v1975 : BitVec 32 := Scalar.muli arg5 c1024_i32_932
  let v1976 : Index := Scalar.indexCast v1975
  let c0_933 : Index := 0#32
  ![v1976.toNat, 0]
@[reducible] def k0_t10_loop : Scf.Loop 32 :=
  let c0_i32_884 : BitVec 32 := 0#32
  let c16_i32_885 : BitVec 32 := 16#32
  let v1960 : BitVec 32 := Scalar.addi c0_i32_884 c16_i32_885
  let c1_i32_886 : BitVec 32 := 1#32
  ⟨c0_i32_884, v1960, c1_i32_886⟩
def k0_off18 (k0_t10 : Fin k0_t10_loop.trips) : Fin 2 → Nat :=
  let c0_i32_884 : BitVec 32 := 0#32
  let c1_i32_886 : BitVec 32 := 1#32
  let arg5 : BitVec 32 := Scf.iv c0_i32_884 c1_i32_886 k0_t10
  let c0_i32_933 : BitVec 32 := 0#32
  let v1976 : BitVec 1 := Scalar.cmpi .sgt arg5 c0_i32_933
  let v1977 : BitVec 32 := Scalar.extui v1976
  let c0_i32_934 : BitVec 32 := 0#32
  let v1978 : BitVec 1 := Scalar.cmpi .slt arg5 c0_i32_934
  let v1979 : BitVec 32 := Scalar.extui v1978
  let v1980 : BitVec 32 := Scalar.subi v1977 v1979
  let c8_i32_932 : BitVec 32 := 8#32
  let c0_i32_935 : BitVec 32 := 0#32
  let v1981 : BitVec 1 := Scalar.cmpi .sgt c8_i32_932 c0_i32_935
  let v1982 : BitVec 32 := Scalar.extui v1981
  let c0_i32_936 : BitVec 32 := 0#32
  let v1983 : BitVec 1 := Scalar.cmpi .slt c8_i32_932 c0_i32_936
  let v1984 : BitVec 32 := Scalar.extui v1983
  let v1985 : BitVec 32 := Scalar.subi v1982 v1984
  let v1986 : BitVec 1 := Scalar.cmpi .ne v1980 v1985
  let v1987 : BitVec 32 := Scalar.remsi arg5 c8_i32_932
  let c0_i32_937 : BitVec 32 := 0#32
  let v1988 : BitVec 1 := Scalar.cmpi .ne v1987 c0_i32_937
  let v1989 : BitVec 1 := Scalar.andi v1986 v1988
  let v1975 : BitVec 32 := Scalar.divsi arg5 c8_i32_932
  let c1_i32_938 : BitVec 32 := 1#32
  let v1990 : BitVec 32 := Scalar.subi v1975 c1_i32_938
  let v1991 : BitVec 32 := Scalar.select v1989 v1990 v1975
  let c2_i32_940 : BitVec 32 := 2#32
  let v1994 : BitVec 32 := Scalar.muli v1991 c2_i32_940
  let c8_i32_941 : BitVec 32 := 8#32
  let v1995 : BitVec 32 := Scalar.muli v1994 c8_i32_941
  let c8_i32_939 : BitVec 32 := 8#32
  let v1992 : BitVec 32 := Scalar.muli v1991 c8_i32_939
  let v1993 : BitVec 32 := Scalar.subi arg5 v1992
  let v1996 : BitVec 32 := Scalar.addi v1995 v1993
  let c1024_i32_942 : BitVec 32 := 1024#32
  let v1997 : BitVec 32 := Scalar.muli v1996 c1024_i32_942
  let v1999 : Index := Scalar.indexCast v1997
  let c0_943 : Index := 0#32
  ![v1999.toNat, 0]
def k0_off19 (k0_t10 : Fin k0_t10_loop.trips) : Fin 2 → Nat :=
  let c0_i32_884 : BitVec 32 := 0#32
  let c1_i32_886 : BitVec 32 := 1#32
  let arg5 : BitVec 32 := Scf.iv c0_i32_884 c1_i32_886 k0_t10
  let c0_i32_933 : BitVec 32 := 0#32
  let v1976 : BitVec 1 := Scalar.cmpi .sgt arg5 c0_i32_933
  let v1977 : BitVec 32 := Scalar.extui v1976
  let c0_i32_934 : BitVec 32 := 0#32
  let v1978 : BitVec 1 := Scalar.cmpi .slt arg5 c0_i32_934
  let v1979 : BitVec 32 := Scalar.extui v1978
  let v1980 : BitVec 32 := Scalar.subi v1977 v1979
  let c8_i32_932 : BitVec 32 := 8#32
  let c0_i32_935 : BitVec 32 := 0#32
  let v1981 : BitVec 1 := Scalar.cmpi .sgt c8_i32_932 c0_i32_935
  let v1982 : BitVec 32 := Scalar.extui v1981
  let c0_i32_936 : BitVec 32 := 0#32
  let v1983 : BitVec 1 := Scalar.cmpi .slt c8_i32_932 c0_i32_936
  let v1984 : BitVec 32 := Scalar.extui v1983
  let v1985 : BitVec 32 := Scalar.subi v1982 v1984
  let v1986 : BitVec 1 := Scalar.cmpi .ne v1980 v1985
  let v1987 : BitVec 32 := Scalar.remsi arg5 c8_i32_932
  let c0_i32_937 : BitVec 32 := 0#32
  let v1988 : BitVec 1 := Scalar.cmpi .ne v1987 c0_i32_937
  let v1989 : BitVec 1 := Scalar.andi v1986 v1988
  let v1975 : BitVec 32 := Scalar.divsi arg5 c8_i32_932
  let c1_i32_938 : BitVec 32 := 1#32
  let v1990 : BitVec 32 := Scalar.subi v1975 c1_i32_938
  let v1991 : BitVec 32 := Scalar.select v1989 v1990 v1975
  let c2_i32_940 : BitVec 32 := 2#32
  let v1994 : BitVec 32 := Scalar.muli v1991 c2_i32_940
  let c8_i32_941 : BitVec 32 := 8#32
  let v1995 : BitVec 32 := Scalar.muli v1994 c8_i32_941
  let c8_i32_939 : BitVec 32 := 8#32
  let v1992 : BitVec 32 := Scalar.muli v1991 c8_i32_939
  let v1993 : BitVec 32 := Scalar.subi arg5 v1992
  let v1996 : BitVec 32 := Scalar.addi v1995 v1993
  let c1024_i32_942 : BitVec 32 := 1024#32
  let v1997 : BitVec 32 := Scalar.muli v1996 c1024_i32_942
  let c8192_i32 : BitVec 32 := 8192#32
  let v1998 : BitVec 32 := Scalar.addi v1997 c8192_i32
  let v2001 : Index := Scalar.indexCast v1998
  let c0_944 : Index := 0#32
  ![v2001.toNat, 0]
@[reducible] def k0_t11_loop : Scf.Loop 32 :=
  let c0_i32_888 : BitVec 32 := 0#32
  let c16_i32_889 : BitVec 32 := 16#32
  let v1961 : BitVec 32 := Scalar.addi c0_i32_888 c16_i32_889
  let c1_i32_890 : BitVec 32 := 1#32
  ⟨c0_i32_888, v1961, c1_i32_890⟩
def k0_off20 (k0_t11 : Fin k0_t11_loop.trips) : Fin 2 → Nat :=
  let c0_i32_888 : BitVec 32 := 0#32
  let c1_i32_890 : BitVec 32 := 1#32
  let arg5 : BitVec 32 := Scf.iv c0_i32_888 c1_i32_890 k0_t11
  let c0_i32_933 : BitVec 32 := 0#32
  let v1976 : BitVec 1 := Scalar.cmpi .sgt arg5 c0_i32_933
  let v1977 : BitVec 32 := Scalar.extui v1976
  let c0_i32_934 : BitVec 32 := 0#32
  let v1978 : BitVec 1 := Scalar.cmpi .slt arg5 c0_i32_934
  let v1979 : BitVec 32 := Scalar.extui v1978
  let v1980 : BitVec 32 := Scalar.subi v1977 v1979
  let c4_i32_932 : BitVec 32 := 4#32
  let c0_i32_935 : BitVec 32 := 0#32
  let v1981 : BitVec 1 := Scalar.cmpi .sgt c4_i32_932 c0_i32_935
  let v1982 : BitVec 32 := Scalar.extui v1981
  let c0_i32_936 : BitVec 32 := 0#32
  let v1983 : BitVec 1 := Scalar.cmpi .slt c4_i32_932 c0_i32_936
  let v1984 : BitVec 32 := Scalar.extui v1983
  let v1985 : BitVec 32 := Scalar.subi v1982 v1984
  let v1986 : BitVec 1 := Scalar.cmpi .ne v1980 v1985
  let v1987 : BitVec 32 := Scalar.remsi arg5 c4_i32_932
  let c0_i32_937 : BitVec 32 := 0#32
  let v1988 : BitVec 1 := Scalar.cmpi .ne v1987 c0_i32_937
  let v1989 : BitVec 1 := Scalar.andi v1986 v1988
  let v1975 : BitVec 32 := Scalar.divsi arg5 c4_i32_932
  let c1_i32_938 : BitVec 32 := 1#32
  let v1990 : BitVec 32 := Scalar.subi v1975 c1_i32_938
  let v1991 : BitVec 32 := Scalar.select v1989 v1990 v1975
  let c2_i32_940 : BitVec 32 := 2#32
  let v1994 : BitVec 32 := Scalar.muli v1991 c2_i32_940
  let c4_i32_941 : BitVec 32 := 4#32
  let v1995 : BitVec 32 := Scalar.muli v1994 c4_i32_941
  let c4_i32_939 : BitVec 32 := 4#32
  let v1992 : BitVec 32 := Scalar.muli v1991 c4_i32_939
  let v1993 : BitVec 32 := Scalar.subi arg5 v1992
  let v1996 : BitVec 32 := Scalar.addi v1995 v1993
  let c1024_i32_942 : BitVec 32 := 1024#32
  let v1997 : BitVec 32 := Scalar.muli v1996 c1024_i32_942
  let v1999 : Index := Scalar.indexCast v1997
  let c0_943 : Index := 0#32
  ![v1999.toNat, 0]
def k0_off21 (k0_t11 : Fin k0_t11_loop.trips) : Fin 2 → Nat :=
  let c0_i32_888 : BitVec 32 := 0#32
  let c1_i32_890 : BitVec 32 := 1#32
  let arg5 : BitVec 32 := Scf.iv c0_i32_888 c1_i32_890 k0_t11
  let c0_i32_933 : BitVec 32 := 0#32
  let v1976 : BitVec 1 := Scalar.cmpi .sgt arg5 c0_i32_933
  let v1977 : BitVec 32 := Scalar.extui v1976
  let c0_i32_934 : BitVec 32 := 0#32
  let v1978 : BitVec 1 := Scalar.cmpi .slt arg5 c0_i32_934
  let v1979 : BitVec 32 := Scalar.extui v1978
  let v1980 : BitVec 32 := Scalar.subi v1977 v1979
  let c4_i32_932 : BitVec 32 := 4#32
  let c0_i32_935 : BitVec 32 := 0#32
  let v1981 : BitVec 1 := Scalar.cmpi .sgt c4_i32_932 c0_i32_935
  let v1982 : BitVec 32 := Scalar.extui v1981
  let c0_i32_936 : BitVec 32 := 0#32
  let v1983 : BitVec 1 := Scalar.cmpi .slt c4_i32_932 c0_i32_936
  let v1984 : BitVec 32 := Scalar.extui v1983
  let v1985 : BitVec 32 := Scalar.subi v1982 v1984
  let v1986 : BitVec 1 := Scalar.cmpi .ne v1980 v1985
  let v1987 : BitVec 32 := Scalar.remsi arg5 c4_i32_932
  let c0_i32_937 : BitVec 32 := 0#32
  let v1988 : BitVec 1 := Scalar.cmpi .ne v1987 c0_i32_937
  let v1989 : BitVec 1 := Scalar.andi v1986 v1988
  let v1975 : BitVec 32 := Scalar.divsi arg5 c4_i32_932
  let c1_i32_938 : BitVec 32 := 1#32
  let v1990 : BitVec 32 := Scalar.subi v1975 c1_i32_938
  let v1991 : BitVec 32 := Scalar.select v1989 v1990 v1975
  let c2_i32_940 : BitVec 32 := 2#32
  let v1994 : BitVec 32 := Scalar.muli v1991 c2_i32_940
  let c4_i32_941 : BitVec 32 := 4#32
  let v1995 : BitVec 32 := Scalar.muli v1994 c4_i32_941
  let c4_i32_939 : BitVec 32 := 4#32
  let v1992 : BitVec 32 := Scalar.muli v1991 c4_i32_939
  let v1993 : BitVec 32 := Scalar.subi arg5 v1992
  let v1996 : BitVec 32 := Scalar.addi v1995 v1993
  let c1024_i32_942 : BitVec 32 := 1024#32
  let v1997 : BitVec 32 := Scalar.muli v1996 c1024_i32_942
  let c4096_i32 : BitVec 32 := 4096#32
  let v1998 : BitVec 32 := Scalar.addi v1997 c4096_i32
  let v2001 : Index := Scalar.indexCast v1998
  let c0_944 : Index := 0#32
  ![v2001.toNat, 0]
@[reducible] def k0_t12_loop : Scf.Loop 32 :=
  let c0_i32_892 : BitVec 32 := 0#32
  let c16_i32_893 : BitVec 32 := 16#32
  let v1962 : BitVec 32 := Scalar.addi c0_i32_892 c16_i32_893
  let c1_i32_894 : BitVec 32 := 1#32
  ⟨c0_i32_892, v1962, c1_i32_894⟩
def k0_off22 (k0_t12 : Fin k0_t12_loop.trips) : Fin 2 → Nat :=
  let c0_i32_892 : BitVec 32 := 0#32
  let c1_i32_894 : BitVec 32 := 1#32
  let arg5 : BitVec 32 := Scf.iv c0_i32_892 c1_i32_894 k0_t12
  let c0_i32_933 : BitVec 32 := 0#32
  let v1976 : BitVec 1 := Scalar.cmpi .sgt arg5 c0_i32_933
  let v1977 : BitVec 32 := Scalar.extui v1976
  let c0_i32_934 : BitVec 32 := 0#32
  let v1978 : BitVec 1 := Scalar.cmpi .slt arg5 c0_i32_934
  let v1979 : BitVec 32 := Scalar.extui v1978
  let v1980 : BitVec 32 := Scalar.subi v1977 v1979
  let c2_i32_932 : BitVec 32 := 2#32
  let c0_i32_935 : BitVec 32 := 0#32
  let v1981 : BitVec 1 := Scalar.cmpi .sgt c2_i32_932 c0_i32_935
  let v1982 : BitVec 32 := Scalar.extui v1981
  let c0_i32_936 : BitVec 32 := 0#32
  let v1983 : BitVec 1 := Scalar.cmpi .slt c2_i32_932 c0_i32_936
  let v1984 : BitVec 32 := Scalar.extui v1983
  let v1985 : BitVec 32 := Scalar.subi v1982 v1984
  let v1986 : BitVec 1 := Scalar.cmpi .ne v1980 v1985
  let v1987 : BitVec 32 := Scalar.remsi arg5 c2_i32_932
  let c0_i32_937 : BitVec 32 := 0#32
  let v1988 : BitVec 1 := Scalar.cmpi .ne v1987 c0_i32_937
  let v1989 : BitVec 1 := Scalar.andi v1986 v1988
  let v1975 : BitVec 32 := Scalar.divsi arg5 c2_i32_932
  let c1_i32_938 : BitVec 32 := 1#32
  let v1990 : BitVec 32 := Scalar.subi v1975 c1_i32_938
  let v1991 : BitVec 32 := Scalar.select v1989 v1990 v1975
  let c2_i32_940 : BitVec 32 := 2#32
  let v1994 : BitVec 32 := Scalar.muli v1991 c2_i32_940
  let c2_i32_941 : BitVec 32 := 2#32
  let v1995 : BitVec 32 := Scalar.muli v1994 c2_i32_941
  let c2_i32_939 : BitVec 32 := 2#32
  let v1992 : BitVec 32 := Scalar.muli v1991 c2_i32_939
  let v1993 : BitVec 32 := Scalar.subi arg5 v1992
  let v1996 : BitVec 32 := Scalar.addi v1995 v1993
  let c1024_i32_942 : BitVec 32 := 1024#32
  let v1997 : BitVec 32 := Scalar.muli v1996 c1024_i32_942
  let v1999 : Index := Scalar.indexCast v1997
  let c0_943 : Index := 0#32
  ![v1999.toNat, 0]
def k0_off23 (k0_t12 : Fin k0_t12_loop.trips) : Fin 2 → Nat :=
  let c0_i32_892 : BitVec 32 := 0#32
  let c1_i32_894 : BitVec 32 := 1#32
  let arg5 : BitVec 32 := Scf.iv c0_i32_892 c1_i32_894 k0_t12
  let c0_i32_933 : BitVec 32 := 0#32
  let v1976 : BitVec 1 := Scalar.cmpi .sgt arg5 c0_i32_933
  let v1977 : BitVec 32 := Scalar.extui v1976
  let c0_i32_934 : BitVec 32 := 0#32
  let v1978 : BitVec 1 := Scalar.cmpi .slt arg5 c0_i32_934
  let v1979 : BitVec 32 := Scalar.extui v1978
  let v1980 : BitVec 32 := Scalar.subi v1977 v1979
  let c2_i32_932 : BitVec 32 := 2#32
  let c0_i32_935 : BitVec 32 := 0#32
  let v1981 : BitVec 1 := Scalar.cmpi .sgt c2_i32_932 c0_i32_935
  let v1982 : BitVec 32 := Scalar.extui v1981
  let c0_i32_936 : BitVec 32 := 0#32
  let v1983 : BitVec 1 := Scalar.cmpi .slt c2_i32_932 c0_i32_936
  let v1984 : BitVec 32 := Scalar.extui v1983
  let v1985 : BitVec 32 := Scalar.subi v1982 v1984
  let v1986 : BitVec 1 := Scalar.cmpi .ne v1980 v1985
  let v1987 : BitVec 32 := Scalar.remsi arg5 c2_i32_932
  let c0_i32_937 : BitVec 32 := 0#32
  let v1988 : BitVec 1 := Scalar.cmpi .ne v1987 c0_i32_937
  let v1989 : BitVec 1 := Scalar.andi v1986 v1988
  let v1975 : BitVec 32 := Scalar.divsi arg5 c2_i32_932
  let c1_i32_938 : BitVec 32 := 1#32
  let v1990 : BitVec 32 := Scalar.subi v1975 c1_i32_938
  let v1991 : BitVec 32 := Scalar.select v1989 v1990 v1975
  let c2_i32_940 : BitVec 32 := 2#32
  let v1994 : BitVec 32 := Scalar.muli v1991 c2_i32_940
  let c2_i32_941 : BitVec 32 := 2#32
  let v1995 : BitVec 32 := Scalar.muli v1994 c2_i32_941
  let c2_i32_939 : BitVec 32 := 2#32
  let v1992 : BitVec 32 := Scalar.muli v1991 c2_i32_939
  let v1993 : BitVec 32 := Scalar.subi arg5 v1992
  let v1996 : BitVec 32 := Scalar.addi v1995 v1993
  let c1024_i32_942 : BitVec 32 := 1024#32
  let v1997 : BitVec 32 := Scalar.muli v1996 c1024_i32_942
  let c2048_i32 : BitVec 32 := 2048#32
  let v1998 : BitVec 32 := Scalar.addi v1997 c2048_i32
  let v2001 : Index := Scalar.indexCast v1998
  let c0_944 : Index := 0#32
  ![v2001.toNat, 0]
@[reducible] def k0_t13_loop : Scf.Loop 32 :=
  let c0_i32_896 : BitVec 32 := 0#32
  let c16_i32_897 : BitVec 32 := 16#32
  let v1963 : BitVec 32 := Scalar.addi c0_i32_896 c16_i32_897
  let c1_i32_898 : BitVec 32 := 1#32
  ⟨c0_i32_896, v1963, c1_i32_898⟩
def k0_off24 (k0_t13 : Fin k0_t13_loop.trips) : Fin 2 → Nat :=
  let c0_i32_896 : BitVec 32 := 0#32
  let c1_i32_898 : BitVec 32 := 1#32
  let arg5 : BitVec 32 := Scf.iv c0_i32_896 c1_i32_898 k0_t13
  let c0_i32_933 : BitVec 32 := 0#32
  let v1976 : BitVec 1 := Scalar.cmpi .sgt arg5 c0_i32_933
  let v1977 : BitVec 32 := Scalar.extui v1976
  let c0_i32_934 : BitVec 32 := 0#32
  let v1978 : BitVec 1 := Scalar.cmpi .slt arg5 c0_i32_934
  let v1979 : BitVec 32 := Scalar.extui v1978
  let v1980 : BitVec 32 := Scalar.subi v1977 v1979
  let c1_i32_932 : BitVec 32 := 1#32
  let c0_i32_935 : BitVec 32 := 0#32
  let v1981 : BitVec 1 := Scalar.cmpi .sgt c1_i32_932 c0_i32_935
  let v1982 : BitVec 32 := Scalar.extui v1981
  let c0_i32_936 : BitVec 32 := 0#32
  let v1983 : BitVec 1 := Scalar.cmpi .slt c1_i32_932 c0_i32_936
  let v1984 : BitVec 32 := Scalar.extui v1983
  let v1985 : BitVec 32 := Scalar.subi v1982 v1984
  let v1986 : BitVec 1 := Scalar.cmpi .ne v1980 v1985
  let v1987 : BitVec 32 := Scalar.remsi arg5 c1_i32_932
  let c0_i32_937 : BitVec 32 := 0#32
  let v1988 : BitVec 1 := Scalar.cmpi .ne v1987 c0_i32_937
  let v1989 : BitVec 1 := Scalar.andi v1986 v1988
  let v1975 : BitVec 32 := Scalar.divsi arg5 c1_i32_932
  let c1_i32_938 : BitVec 32 := 1#32
  let v1990 : BitVec 32 := Scalar.subi v1975 c1_i32_938
  let v1991 : BitVec 32 := Scalar.select v1989 v1990 v1975
  let c2_i32_940 : BitVec 32 := 2#32
  let v1994 : BitVec 32 := Scalar.muli v1991 c2_i32_940
  let c1_i32_941 : BitVec 32 := 1#32
  let v1995 : BitVec 32 := Scalar.muli v1994 c1_i32_941
  let c1_i32_939 : BitVec 32 := 1#32
  let v1992 : BitVec 32 := Scalar.muli v1991 c1_i32_939
  let v1993 : BitVec 32 := Scalar.subi arg5 v1992
  let v1996 : BitVec 32 := Scalar.addi v1995 v1993
  let c1024_i32_942 : BitVec 32 := 1024#32
  let v1997 : BitVec 32 := Scalar.muli v1996 c1024_i32_942
  let v1999 : Index := Scalar.indexCast v1997
  let c0_944 : Index := 0#32
  ![v1999.toNat, 0]
def k0_off25 (k0_t13 : Fin k0_t13_loop.trips) : Fin 2 → Nat :=
  let c0_i32_896 : BitVec 32 := 0#32
  let c1_i32_898 : BitVec 32 := 1#32
  let arg5 : BitVec 32 := Scf.iv c0_i32_896 c1_i32_898 k0_t13
  let c0_i32_933 : BitVec 32 := 0#32
  let v1976 : BitVec 1 := Scalar.cmpi .sgt arg5 c0_i32_933
  let v1977 : BitVec 32 := Scalar.extui v1976
  let c0_i32_934 : BitVec 32 := 0#32
  let v1978 : BitVec 1 := Scalar.cmpi .slt arg5 c0_i32_934
  let v1979 : BitVec 32 := Scalar.extui v1978
  let v1980 : BitVec 32 := Scalar.subi v1977 v1979
  let c1_i32_932 : BitVec 32 := 1#32
  let c0_i32_935 : BitVec 32 := 0#32
  let v1981 : BitVec 1 := Scalar.cmpi .sgt c1_i32_932 c0_i32_935
  let v1982 : BitVec 32 := Scalar.extui v1981
  let c0_i32_936 : BitVec 32 := 0#32
  let v1983 : BitVec 1 := Scalar.cmpi .slt c1_i32_932 c0_i32_936
  let v1984 : BitVec 32 := Scalar.extui v1983
  let v1985 : BitVec 32 := Scalar.subi v1982 v1984
  let v1986 : BitVec 1 := Scalar.cmpi .ne v1980 v1985
  let v1987 : BitVec 32 := Scalar.remsi arg5 c1_i32_932
  let c0_i32_937 : BitVec 32 := 0#32
  let v1988 : BitVec 1 := Scalar.cmpi .ne v1987 c0_i32_937
  let v1989 : BitVec 1 := Scalar.andi v1986 v1988
  let v1975 : BitVec 32 := Scalar.divsi arg5 c1_i32_932
  let c1_i32_938 : BitVec 32 := 1#32
  let v1990 : BitVec 32 := Scalar.subi v1975 c1_i32_938
  let v1991 : BitVec 32 := Scalar.select v1989 v1990 v1975
  let c2_i32_940 : BitVec 32 := 2#32
  let v1994 : BitVec 32 := Scalar.muli v1991 c2_i32_940
  let c1_i32_941 : BitVec 32 := 1#32
  let v1995 : BitVec 32 := Scalar.muli v1994 c1_i32_941
  let c1_i32_939 : BitVec 32 := 1#32
  let v1992 : BitVec 32 := Scalar.muli v1991 c1_i32_939
  let v1993 : BitVec 32 := Scalar.subi arg5 v1992
  let v1996 : BitVec 32 := Scalar.addi v1995 v1993
  let c1024_i32_942 : BitVec 32 := 1024#32
  let v1997 : BitVec 32 := Scalar.muli v1996 c1024_i32_942
  let c1024_i32_943 : BitVec 32 := 1024#32
  let v1998 : BitVec 32 := Scalar.addi v1997 c1024_i32_943
  let v2001 : Index := Scalar.indexCast v1998
  let c0_945 : Index := 0#32
  ![v2001.toNat, 0]
@[reducible] def k0_t14_loop : Scf.Loop 32 :=
  let c0_i32_900 : BitVec 32 := 0#32
  let c32_i32_901 : BitVec 32 := 32#32
  let v1964 : BitVec 32 := Scalar.addi c0_i32_900 c32_i32_901
  let c1_i32_902 : BitVec 32 := 1#32
  ⟨c0_i32_900, v1964, c1_i32_902⟩
def k0_off26 (k0_t14 : Fin k0_t14_loop.trips) : Fin 2 → Nat :=
  let c0_i32_900 : BitVec 32 := 0#32
  let c1_i32_902 : BitVec 32 := 1#32
  let arg5 : BitVec 32 := Scf.iv c0_i32_900 c1_i32_902 k0_t14
  let c1024_i32_932 : BitVec 32 := 1024#32
  let v1975 : BitVec 32 := Scalar.muli arg5 c1024_i32_932
  let v1976 : Index := Scalar.indexCast v1975
  let c0_933 : Index := 0#32
  ![v1976.toNat, 0]
@[reducible] def k0_t15_loop : Scf.Loop 32 :=
  let c0_i32_904 : BitVec 32 := 0#32
  let c16_i32_905 : BitVec 32 := 16#32
  let v1965 : BitVec 32 := Scalar.addi c0_i32_904 c16_i32_905
  let c1_i32_906 : BitVec 32 := 1#32
  ⟨c0_i32_904, v1965, c1_i32_906⟩
def k0_off27 (k0_t15 : Fin k0_t15_loop.trips) : Fin 2 → Nat :=
  let c0_i32_904 : BitVec 32 := 0#32
  let c1_i32_906 : BitVec 32 := 1#32
  let arg5 : BitVec 32 := Scf.iv c0_i32_904 c1_i32_906 k0_t15
  let c0_i32_933 : BitVec 32 := 0#32
  let v1976 : BitVec 1 := Scalar.cmpi .sgt arg5 c0_i32_933
  let v1977 : BitVec 32 := Scalar.extui v1976
  let c0_i32_934 : BitVec 32 := 0#32
  let v1978 : BitVec 1 := Scalar.cmpi .slt arg5 c0_i32_934
  let v1979 : BitVec 32 := Scalar.extui v1978
  let v1980 : BitVec 32 := Scalar.subi v1977 v1979
  let c16_i32_932 : BitVec 32 := 16#32
  let c0_i32_935 : BitVec 32 := 0#32
  let v1981 : BitVec 1 := Scalar.cmpi .sgt c16_i32_932 c0_i32_935
  let v1982 : BitVec 32 := Scalar.extui v1981
  let c0_i32_936 : BitVec 32 := 0#32
  let v1983 : BitVec 1 := Scalar.cmpi .slt c16_i32_932 c0_i32_936
  let v1984 : BitVec 32 := Scalar.extui v1983
  let v1985 : BitVec 32 := Scalar.subi v1982 v1984
  let v1986 : BitVec 1 := Scalar.cmpi .ne v1980 v1985
  let v1987 : BitVec 32 := Scalar.remsi arg5 c16_i32_932
  let c0_i32_937 : BitVec 32 := 0#32
  let v1988 : BitVec 1 := Scalar.cmpi .ne v1987 c0_i32_937
  let v1989 : BitVec 1 := Scalar.andi v1986 v1988
  let v1975 : BitVec 32 := Scalar.divsi arg5 c16_i32_932
  let c1_i32_938 : BitVec 32 := 1#32
  let v1990 : BitVec 32 := Scalar.subi v1975 c1_i32_938
  let v1991 : BitVec 32 := Scalar.select v1989 v1990 v1975
  let c2_i32_940 : BitVec 32 := 2#32
  let v1994 : BitVec 32 := Scalar.muli v1991 c2_i32_940
  let c16_i32_941 : BitVec 32 := 16#32
  let v1995 : BitVec 32 := Scalar.muli v1994 c16_i32_941
  let c16_i32_939 : BitVec 32 := 16#32
  let v1992 : BitVec 32 := Scalar.muli v1991 c16_i32_939
  let v1993 : BitVec 32 := Scalar.subi arg5 v1992
  let v1996 : BitVec 32 := Scalar.addi v1995 v1993
  let c1024_i32_942 : BitVec 32 := 1024#32
  let v1997 : BitVec 32 := Scalar.muli v1996 c1024_i32_942
  let v1999 : Index := Scalar.indexCast v1997
  let c0_943 : Index := 0#32
  ![v1999.toNat, 0]
def k0_off28 (k0_t15 : Fin k0_t15_loop.trips) : Fin 2 → Nat :=
  let c0_i32_904 : BitVec 32 := 0#32
  let c1_i32_906 : BitVec 32 := 1#32
  let arg5 : BitVec 32 := Scf.iv c0_i32_904 c1_i32_906 k0_t15
  let c0_i32_933 : BitVec 32 := 0#32
  let v1976 : BitVec 1 := Scalar.cmpi .sgt arg5 c0_i32_933
  let v1977 : BitVec 32 := Scalar.extui v1976
  let c0_i32_934 : BitVec 32 := 0#32
  let v1978 : BitVec 1 := Scalar.cmpi .slt arg5 c0_i32_934
  let v1979 : BitVec 32 := Scalar.extui v1978
  let v1980 : BitVec 32 := Scalar.subi v1977 v1979
  let c16_i32_932 : BitVec 32 := 16#32
  let c0_i32_935 : BitVec 32 := 0#32
  let v1981 : BitVec 1 := Scalar.cmpi .sgt c16_i32_932 c0_i32_935
  let v1982 : BitVec 32 := Scalar.extui v1981
  let c0_i32_936 : BitVec 32 := 0#32
  let v1983 : BitVec 1 := Scalar.cmpi .slt c16_i32_932 c0_i32_936
  let v1984 : BitVec 32 := Scalar.extui v1983
  let v1985 : BitVec 32 := Scalar.subi v1982 v1984
  let v1986 : BitVec 1 := Scalar.cmpi .ne v1980 v1985
  let v1987 : BitVec 32 := Scalar.remsi arg5 c16_i32_932
  let c0_i32_937 : BitVec 32 := 0#32
  let v1988 : BitVec 1 := Scalar.cmpi .ne v1987 c0_i32_937
  let v1989 : BitVec 1 := Scalar.andi v1986 v1988
  let v1975 : BitVec 32 := Scalar.divsi arg5 c16_i32_932
  let c1_i32_938 : BitVec 32 := 1#32
  let v1990 : BitVec 32 := Scalar.subi v1975 c1_i32_938
  let v1991 : BitVec 32 := Scalar.select v1989 v1990 v1975
  let c2_i32_940 : BitVec 32 := 2#32
  let v1994 : BitVec 32 := Scalar.muli v1991 c2_i32_940
  let c16_i32_941 : BitVec 32 := 16#32
  let v1995 : BitVec 32 := Scalar.muli v1994 c16_i32_941
  let c16_i32_939 : BitVec 32 := 16#32
  let v1992 : BitVec 32 := Scalar.muli v1991 c16_i32_939
  let v1993 : BitVec 32 := Scalar.subi arg5 v1992
  let v1996 : BitVec 32 := Scalar.addi v1995 v1993
  let c1024_i32_942 : BitVec 32 := 1024#32
  let v1997 : BitVec 32 := Scalar.muli v1996 c1024_i32_942
  let c16384_i32 : BitVec 32 := 16384#32
  let v1998 : BitVec 32 := Scalar.addi v1997 c16384_i32
  let v2001 : Index := Scalar.indexCast v1998
  let c0_944 : Index := 0#32
  ![v2001.toNat, 0]
@[reducible] def k0_t16_loop : Scf.Loop 32 :=
  let c0_i32_908 : BitVec 32 := 0#32
  let c16_i32_909 : BitVec 32 := 16#32
  let v1966 : BitVec 32 := Scalar.addi c0_i32_908 c16_i32_909
  let c1_i32_910 : BitVec 32 := 1#32
  ⟨c0_i32_908, v1966, c1_i32_910⟩
def k0_off29 (k0_t16 : Fin k0_t16_loop.trips) : Fin 2 → Nat :=
  let c0_i32_908 : BitVec 32 := 0#32
  let c1_i32_910 : BitVec 32 := 1#32
  let arg5 : BitVec 32 := Scf.iv c0_i32_908 c1_i32_910 k0_t16
  let c0_i32_933 : BitVec 32 := 0#32
  let v1976 : BitVec 1 := Scalar.cmpi .sgt arg5 c0_i32_933
  let v1977 : BitVec 32 := Scalar.extui v1976
  let c0_i32_934 : BitVec 32 := 0#32
  let v1978 : BitVec 1 := Scalar.cmpi .slt arg5 c0_i32_934
  let v1979 : BitVec 32 := Scalar.extui v1978
  let v1980 : BitVec 32 := Scalar.subi v1977 v1979
  let c8_i32_932 : BitVec 32 := 8#32
  let c0_i32_935 : BitVec 32 := 0#32
  let v1981 : BitVec 1 := Scalar.cmpi .sgt c8_i32_932 c0_i32_935
  let v1982 : BitVec 32 := Scalar.extui v1981
  let c0_i32_936 : BitVec 32 := 0#32
  let v1983 : BitVec 1 := Scalar.cmpi .slt c8_i32_932 c0_i32_936
  let v1984 : BitVec 32 := Scalar.extui v1983
  let v1985 : BitVec 32 := Scalar.subi v1982 v1984
  let v1986 : BitVec 1 := Scalar.cmpi .ne v1980 v1985
  let v1987 : BitVec 32 := Scalar.remsi arg5 c8_i32_932
  let c0_i32_937 : BitVec 32 := 0#32
  let v1988 : BitVec 1 := Scalar.cmpi .ne v1987 c0_i32_937
  let v1989 : BitVec 1 := Scalar.andi v1986 v1988
  let v1975 : BitVec 32 := Scalar.divsi arg5 c8_i32_932
  let c1_i32_938 : BitVec 32 := 1#32
  let v1990 : BitVec 32 := Scalar.subi v1975 c1_i32_938
  let v1991 : BitVec 32 := Scalar.select v1989 v1990 v1975
  let c2_i32_940 : BitVec 32 := 2#32
  let v1994 : BitVec 32 := Scalar.muli v1991 c2_i32_940
  let c8_i32_941 : BitVec 32 := 8#32
  let v1995 : BitVec 32 := Scalar.muli v1994 c8_i32_941
  let c8_i32_939 : BitVec 32 := 8#32
  let v1992 : BitVec 32 := Scalar.muli v1991 c8_i32_939
  let v1993 : BitVec 32 := Scalar.subi arg5 v1992
  let v1996 : BitVec 32 := Scalar.addi v1995 v1993
  let c1024_i32_942 : BitVec 32 := 1024#32
  let v1997 : BitVec 32 := Scalar.muli v1996 c1024_i32_942
  let v1999 : Index := Scalar.indexCast v1997
  let c0_943 : Index := 0#32
  ![v1999.toNat, 0]
def k0_off30 (k0_t16 : Fin k0_t16_loop.trips) : Fin 2 → Nat :=
  let c0_i32_908 : BitVec 32 := 0#32
  let c1_i32_910 : BitVec 32 := 1#32
  let arg5 : BitVec 32 := Scf.iv c0_i32_908 c1_i32_910 k0_t16
  let c0_i32_933 : BitVec 32 := 0#32
  let v1976 : BitVec 1 := Scalar.cmpi .sgt arg5 c0_i32_933
  let v1977 : BitVec 32 := Scalar.extui v1976
  let c0_i32_934 : BitVec 32 := 0#32
  let v1978 : BitVec 1 := Scalar.cmpi .slt arg5 c0_i32_934
  let v1979 : BitVec 32 := Scalar.extui v1978
  let v1980 : BitVec 32 := Scalar.subi v1977 v1979
  let c8_i32_932 : BitVec 32 := 8#32
  let c0_i32_935 : BitVec 32 := 0#32
  let v1981 : BitVec 1 := Scalar.cmpi .sgt c8_i32_932 c0_i32_935
  let v1982 : BitVec 32 := Scalar.extui v1981
  let c0_i32_936 : BitVec 32 := 0#32
  let v1983 : BitVec 1 := Scalar.cmpi .slt c8_i32_932 c0_i32_936
  let v1984 : BitVec 32 := Scalar.extui v1983
  let v1985 : BitVec 32 := Scalar.subi v1982 v1984
  let v1986 : BitVec 1 := Scalar.cmpi .ne v1980 v1985
  let v1987 : BitVec 32 := Scalar.remsi arg5 c8_i32_932
  let c0_i32_937 : BitVec 32 := 0#32
  let v1988 : BitVec 1 := Scalar.cmpi .ne v1987 c0_i32_937
  let v1989 : BitVec 1 := Scalar.andi v1986 v1988
  let v1975 : BitVec 32 := Scalar.divsi arg5 c8_i32_932
  let c1_i32_938 : BitVec 32 := 1#32
  let v1990 : BitVec 32 := Scalar.subi v1975 c1_i32_938
  let v1991 : BitVec 32 := Scalar.select v1989 v1990 v1975
  let c2_i32_940 : BitVec 32 := 2#32
  let v1994 : BitVec 32 := Scalar.muli v1991 c2_i32_940
  let c8_i32_941 : BitVec 32 := 8#32
  let v1995 : BitVec 32 := Scalar.muli v1994 c8_i32_941
  let c8_i32_939 : BitVec 32 := 8#32
  let v1992 : BitVec 32 := Scalar.muli v1991 c8_i32_939
  let v1993 : BitVec 32 := Scalar.subi arg5 v1992
  let v1996 : BitVec 32 := Scalar.addi v1995 v1993
  let c1024_i32_942 : BitVec 32 := 1024#32
  let v1997 : BitVec 32 := Scalar.muli v1996 c1024_i32_942
  let c8192_i32 : BitVec 32 := 8192#32
  let v1998 : BitVec 32 := Scalar.addi v1997 c8192_i32
  let v2001 : Index := Scalar.indexCast v1998
  let c0_944 : Index := 0#32
  ![v2001.toNat, 0]
@[reducible] def k0_t17_loop : Scf.Loop 32 :=
  let c0_i32_912 : BitVec 32 := 0#32
  let c16_i32_913 : BitVec 32 := 16#32
  let v1967 : BitVec 32 := Scalar.addi c0_i32_912 c16_i32_913
  let c1_i32_914 : BitVec 32 := 1#32
  ⟨c0_i32_912, v1967, c1_i32_914⟩
def k0_off31 (k0_t17 : Fin k0_t17_loop.trips) : Fin 2 → Nat :=
  let c0_i32_912 : BitVec 32 := 0#32
  let c1_i32_914 : BitVec 32 := 1#32
  let arg5 : BitVec 32 := Scf.iv c0_i32_912 c1_i32_914 k0_t17
  let c0_i32_933 : BitVec 32 := 0#32
  let v1976 : BitVec 1 := Scalar.cmpi .sgt arg5 c0_i32_933
  let v1977 : BitVec 32 := Scalar.extui v1976
  let c0_i32_934 : BitVec 32 := 0#32
  let v1978 : BitVec 1 := Scalar.cmpi .slt arg5 c0_i32_934
  let v1979 : BitVec 32 := Scalar.extui v1978
  let v1980 : BitVec 32 := Scalar.subi v1977 v1979
  let c4_i32_932 : BitVec 32 := 4#32
  let c0_i32_935 : BitVec 32 := 0#32
  let v1981 : BitVec 1 := Scalar.cmpi .sgt c4_i32_932 c0_i32_935
  let v1982 : BitVec 32 := Scalar.extui v1981
  let c0_i32_936 : BitVec 32 := 0#32
  let v1983 : BitVec 1 := Scalar.cmpi .slt c4_i32_932 c0_i32_936
  let v1984 : BitVec 32 := Scalar.extui v1983
  let v1985 : BitVec 32 := Scalar.subi v1982 v1984
  let v1986 : BitVec 1 := Scalar.cmpi .ne v1980 v1985
  let v1987 : BitVec 32 := Scalar.remsi arg5 c4_i32_932
  let c0_i32_937 : BitVec 32 := 0#32
  let v1988 : BitVec 1 := Scalar.cmpi .ne v1987 c0_i32_937
  let v1989 : BitVec 1 := Scalar.andi v1986 v1988
  let v1975 : BitVec 32 := Scalar.divsi arg5 c4_i32_932
  let c1_i32_938 : BitVec 32 := 1#32
  let v1990 : BitVec 32 := Scalar.subi v1975 c1_i32_938
  let v1991 : BitVec 32 := Scalar.select v1989 v1990 v1975
  let c2_i32_940 : BitVec 32 := 2#32
  let v1994 : BitVec 32 := Scalar.muli v1991 c2_i32_940
  let c4_i32_941 : BitVec 32 := 4#32
  let v1995 : BitVec 32 := Scalar.muli v1994 c4_i32_941
  let c4_i32_939 : BitVec 32 := 4#32
  let v1992 : BitVec 32 := Scalar.muli v1991 c4_i32_939
  let v1993 : BitVec 32 := Scalar.subi arg5 v1992
  let v1996 : BitVec 32 := Scalar.addi v1995 v1993
  let c1024_i32_942 : BitVec 32 := 1024#32
  let v1997 : BitVec 32 := Scalar.muli v1996 c1024_i32_942
  let v1999 : Index := Scalar.indexCast v1997
  let c0_943 : Index := 0#32
  ![v1999.toNat, 0]
def k0_off32 (k0_t17 : Fin k0_t17_loop.trips) : Fin 2 → Nat :=
  let c0_i32_912 : BitVec 32 := 0#32
  let c1_i32_914 : BitVec 32 := 1#32
  let arg5 : BitVec 32 := Scf.iv c0_i32_912 c1_i32_914 k0_t17
  let c0_i32_933 : BitVec 32 := 0#32
  let v1976 : BitVec 1 := Scalar.cmpi .sgt arg5 c0_i32_933
  let v1977 : BitVec 32 := Scalar.extui v1976
  let c0_i32_934 : BitVec 32 := 0#32
  let v1978 : BitVec 1 := Scalar.cmpi .slt arg5 c0_i32_934
  let v1979 : BitVec 32 := Scalar.extui v1978
  let v1980 : BitVec 32 := Scalar.subi v1977 v1979
  let c4_i32_932 : BitVec 32 := 4#32
  let c0_i32_935 : BitVec 32 := 0#32
  let v1981 : BitVec 1 := Scalar.cmpi .sgt c4_i32_932 c0_i32_935
  let v1982 : BitVec 32 := Scalar.extui v1981
  let c0_i32_936 : BitVec 32 := 0#32
  let v1983 : BitVec 1 := Scalar.cmpi .slt c4_i32_932 c0_i32_936
  let v1984 : BitVec 32 := Scalar.extui v1983
  let v1985 : BitVec 32 := Scalar.subi v1982 v1984
  let v1986 : BitVec 1 := Scalar.cmpi .ne v1980 v1985
  let v1987 : BitVec 32 := Scalar.remsi arg5 c4_i32_932
  let c0_i32_937 : BitVec 32 := 0#32
  let v1988 : BitVec 1 := Scalar.cmpi .ne v1987 c0_i32_937
  let v1989 : BitVec 1 := Scalar.andi v1986 v1988
  let v1975 : BitVec 32 := Scalar.divsi arg5 c4_i32_932
  let c1_i32_938 : BitVec 32 := 1#32
  let v1990 : BitVec 32 := Scalar.subi v1975 c1_i32_938
  let v1991 : BitVec 32 := Scalar.select v1989 v1990 v1975
  let c2_i32_940 : BitVec 32 := 2#32
  let v1994 : BitVec 32 := Scalar.muli v1991 c2_i32_940
  let c4_i32_941 : BitVec 32 := 4#32
  let v1995 : BitVec 32 := Scalar.muli v1994 c4_i32_941
  let c4_i32_939 : BitVec 32 := 4#32
  let v1992 : BitVec 32 := Scalar.muli v1991 c4_i32_939
  let v1993 : BitVec 32 := Scalar.subi arg5 v1992
  let v1996 : BitVec 32 := Scalar.addi v1995 v1993
  let c1024_i32_942 : BitVec 32 := 1024#32
  let v1997 : BitVec 32 := Scalar.muli v1996 c1024_i32_942
  let c4096_i32 : BitVec 32 := 4096#32
  let v1998 : BitVec 32 := Scalar.addi v1997 c4096_i32
  let v2001 : Index := Scalar.indexCast v1998
  let c0_944 : Index := 0#32
  ![v2001.toNat, 0]
@[reducible] def k0_t18_loop : Scf.Loop 32 :=
  let c0_i32_916 : BitVec 32 := 0#32
  let c16_i32_917 : BitVec 32 := 16#32
  let v1968 : BitVec 32 := Scalar.addi c0_i32_916 c16_i32_917
  let c1_i32_918 : BitVec 32 := 1#32
  ⟨c0_i32_916, v1968, c1_i32_918⟩
def k0_off33 (k0_t18 : Fin k0_t18_loop.trips) : Fin 2 → Nat :=
  let c0_i32_916 : BitVec 32 := 0#32
  let c1_i32_918 : BitVec 32 := 1#32
  let arg5 : BitVec 32 := Scf.iv c0_i32_916 c1_i32_918 k0_t18
  let c0_i32_933 : BitVec 32 := 0#32
  let v1976 : BitVec 1 := Scalar.cmpi .sgt arg5 c0_i32_933
  let v1977 : BitVec 32 := Scalar.extui v1976
  let c0_i32_934 : BitVec 32 := 0#32
  let v1978 : BitVec 1 := Scalar.cmpi .slt arg5 c0_i32_934
  let v1979 : BitVec 32 := Scalar.extui v1978
  let v1980 : BitVec 32 := Scalar.subi v1977 v1979
  let c2_i32_932 : BitVec 32 := 2#32
  let c0_i32_935 : BitVec 32 := 0#32
  let v1981 : BitVec 1 := Scalar.cmpi .sgt c2_i32_932 c0_i32_935
  let v1982 : BitVec 32 := Scalar.extui v1981
  let c0_i32_936 : BitVec 32 := 0#32
  let v1983 : BitVec 1 := Scalar.cmpi .slt c2_i32_932 c0_i32_936
  let v1984 : BitVec 32 := Scalar.extui v1983
  let v1985 : BitVec 32 := Scalar.subi v1982 v1984
  let v1986 : BitVec 1 := Scalar.cmpi .ne v1980 v1985
  let v1987 : BitVec 32 := Scalar.remsi arg5 c2_i32_932
  let c0_i32_937 : BitVec 32 := 0#32
  let v1988 : BitVec 1 := Scalar.cmpi .ne v1987 c0_i32_937
  let v1989 : BitVec 1 := Scalar.andi v1986 v1988
  let v1975 : BitVec 32 := Scalar.divsi arg5 c2_i32_932
  let c1_i32_938 : BitVec 32 := 1#32
  let v1990 : BitVec 32 := Scalar.subi v1975 c1_i32_938
  let v1991 : BitVec 32 := Scalar.select v1989 v1990 v1975
  let c2_i32_940 : BitVec 32 := 2#32
  let v1994 : BitVec 32 := Scalar.muli v1991 c2_i32_940
  let c2_i32_941 : BitVec 32 := 2#32
  let v1995 : BitVec 32 := Scalar.muli v1994 c2_i32_941
  let c2_i32_939 : BitVec 32 := 2#32
  let v1992 : BitVec 32 := Scalar.muli v1991 c2_i32_939
  let v1993 : BitVec 32 := Scalar.subi arg5 v1992
  let v1996 : BitVec 32 := Scalar.addi v1995 v1993
  let c1024_i32_942 : BitVec 32 := 1024#32
  let v1997 : BitVec 32 := Scalar.muli v1996 c1024_i32_942
  let v1999 : Index := Scalar.indexCast v1997
  let c0_943 : Index := 0#32
  ![v1999.toNat, 0]
def k0_off34 (k0_t18 : Fin k0_t18_loop.trips) : Fin 2 → Nat :=
  let c0_i32_916 : BitVec 32 := 0#32
  let c1_i32_918 : BitVec 32 := 1#32
  let arg5 : BitVec 32 := Scf.iv c0_i32_916 c1_i32_918 k0_t18
  let c0_i32_933 : BitVec 32 := 0#32
  let v1976 : BitVec 1 := Scalar.cmpi .sgt arg5 c0_i32_933
  let v1977 : BitVec 32 := Scalar.extui v1976
  let c0_i32_934 : BitVec 32 := 0#32
  let v1978 : BitVec 1 := Scalar.cmpi .slt arg5 c0_i32_934
  let v1979 : BitVec 32 := Scalar.extui v1978
  let v1980 : BitVec 32 := Scalar.subi v1977 v1979
  let c2_i32_932 : BitVec 32 := 2#32
  let c0_i32_935 : BitVec 32 := 0#32
  let v1981 : BitVec 1 := Scalar.cmpi .sgt c2_i32_932 c0_i32_935
  let v1982 : BitVec 32 := Scalar.extui v1981
  let c0_i32_936 : BitVec 32 := 0#32
  let v1983 : BitVec 1 := Scalar.cmpi .slt c2_i32_932 c0_i32_936
  let v1984 : BitVec 32 := Scalar.extui v1983
  let v1985 : BitVec 32 := Scalar.subi v1982 v1984
  let v1986 : BitVec 1 := Scalar.cmpi .ne v1980 v1985
  let v1987 : BitVec 32 := Scalar.remsi arg5 c2_i32_932
  let c0_i32_937 : BitVec 32 := 0#32
  let v1988 : BitVec 1 := Scalar.cmpi .ne v1987 c0_i32_937
  let v1989 : BitVec 1 := Scalar.andi v1986 v1988
  let v1975 : BitVec 32 := Scalar.divsi arg5 c2_i32_932
  let c1_i32_938 : BitVec 32 := 1#32
  let v1990 : BitVec 32 := Scalar.subi v1975 c1_i32_938
  let v1991 : BitVec 32 := Scalar.select v1989 v1990 v1975
  let c2_i32_940 : BitVec 32 := 2#32
  let v1994 : BitVec 32 := Scalar.muli v1991 c2_i32_940
  let c2_i32_941 : BitVec 32 := 2#32
  let v1995 : BitVec 32 := Scalar.muli v1994 c2_i32_941
  let c2_i32_939 : BitVec 32 := 2#32
  let v1992 : BitVec 32 := Scalar.muli v1991 c2_i32_939
  let v1993 : BitVec 32 := Scalar.subi arg5 v1992
  let v1996 : BitVec 32 := Scalar.addi v1995 v1993
  let c1024_i32_942 : BitVec 32 := 1024#32
  let v1997 : BitVec 32 := Scalar.muli v1996 c1024_i32_942
  let c2048_i32 : BitVec 32 := 2048#32
  let v1998 : BitVec 32 := Scalar.addi v1997 c2048_i32
  let v2001 : Index := Scalar.indexCast v1998
  let c0_944 : Index := 0#32
  ![v2001.toNat, 0]
@[reducible] def k0_t19_loop : Scf.Loop 32 :=
  let c0_i32_920 : BitVec 32 := 0#32
  let c16_i32_921 : BitVec 32 := 16#32
  let v1969 : BitVec 32 := Scalar.addi c0_i32_920 c16_i32_921
  let c1_i32_922 : BitVec 32 := 1#32
  ⟨c0_i32_920, v1969, c1_i32_922⟩
def k0_off35 (k0_t19 : Fin k0_t19_loop.trips) : Fin 2 → Nat :=
  let c0_i32_920 : BitVec 32 := 0#32
  let c1_i32_922 : BitVec 32 := 1#32
  let arg5 : BitVec 32 := Scf.iv c0_i32_920 c1_i32_922 k0_t19
  let c0_i32_933 : BitVec 32 := 0#32
  let v1976 : BitVec 1 := Scalar.cmpi .sgt arg5 c0_i32_933
  let v1977 : BitVec 32 := Scalar.extui v1976
  let c0_i32_934 : BitVec 32 := 0#32
  let v1978 : BitVec 1 := Scalar.cmpi .slt arg5 c0_i32_934
  let v1979 : BitVec 32 := Scalar.extui v1978
  let v1980 : BitVec 32 := Scalar.subi v1977 v1979
  let c1_i32_932 : BitVec 32 := 1#32
  let c0_i32_935 : BitVec 32 := 0#32
  let v1981 : BitVec 1 := Scalar.cmpi .sgt c1_i32_932 c0_i32_935
  let v1982 : BitVec 32 := Scalar.extui v1981
  let c0_i32_936 : BitVec 32 := 0#32
  let v1983 : BitVec 1 := Scalar.cmpi .slt c1_i32_932 c0_i32_936
  let v1984 : BitVec 32 := Scalar.extui v1983
  let v1985 : BitVec 32 := Scalar.subi v1982 v1984
  let v1986 : BitVec 1 := Scalar.cmpi .ne v1980 v1985
  let v1987 : BitVec 32 := Scalar.remsi arg5 c1_i32_932
  let c0_i32_937 : BitVec 32 := 0#32
  let v1988 : BitVec 1 := Scalar.cmpi .ne v1987 c0_i32_937
  let v1989 : BitVec 1 := Scalar.andi v1986 v1988
  let v1975 : BitVec 32 := Scalar.divsi arg5 c1_i32_932
  let c1_i32_938 : BitVec 32 := 1#32
  let v1990 : BitVec 32 := Scalar.subi v1975 c1_i32_938
  let v1991 : BitVec 32 := Scalar.select v1989 v1990 v1975
  let c2_i32_940 : BitVec 32 := 2#32
  let v1994 : BitVec 32 := Scalar.muli v1991 c2_i32_940
  let c1_i32_941 : BitVec 32 := 1#32
  let v1995 : BitVec 32 := Scalar.muli v1994 c1_i32_941
  let c1_i32_939 : BitVec 32 := 1#32
  let v1992 : BitVec 32 := Scalar.muli v1991 c1_i32_939
  let v1993 : BitVec 32 := Scalar.subi arg5 v1992
  let v1996 : BitVec 32 := Scalar.addi v1995 v1993
  let c1024_i32_942 : BitVec 32 := 1024#32
  let v1997 : BitVec 32 := Scalar.muli v1996 c1024_i32_942
  let v1999 : Index := Scalar.indexCast v1997
  let c0_944 : Index := 0#32
  ![v1999.toNat, 0]
def k0_off36 (k0_t19 : Fin k0_t19_loop.trips) : Fin 2 → Nat :=
  let c0_i32_920 : BitVec 32 := 0#32
  let c1_i32_922 : BitVec 32 := 1#32
  let arg5 : BitVec 32 := Scf.iv c0_i32_920 c1_i32_922 k0_t19
  let c0_i32_933 : BitVec 32 := 0#32
  let v1976 : BitVec 1 := Scalar.cmpi .sgt arg5 c0_i32_933
  let v1977 : BitVec 32 := Scalar.extui v1976
  let c0_i32_934 : BitVec 32 := 0#32
  let v1978 : BitVec 1 := Scalar.cmpi .slt arg5 c0_i32_934
  let v1979 : BitVec 32 := Scalar.extui v1978
  let v1980 : BitVec 32 := Scalar.subi v1977 v1979
  let c1_i32_932 : BitVec 32 := 1#32
  let c0_i32_935 : BitVec 32 := 0#32
  let v1981 : BitVec 1 := Scalar.cmpi .sgt c1_i32_932 c0_i32_935
  let v1982 : BitVec 32 := Scalar.extui v1981
  let c0_i32_936 : BitVec 32 := 0#32
  let v1983 : BitVec 1 := Scalar.cmpi .slt c1_i32_932 c0_i32_936
  let v1984 : BitVec 32 := Scalar.extui v1983
  let v1985 : BitVec 32 := Scalar.subi v1982 v1984
  let v1986 : BitVec 1 := Scalar.cmpi .ne v1980 v1985
  let v1987 : BitVec 32 := Scalar.remsi arg5 c1_i32_932
  let c0_i32_937 : BitVec 32 := 0#32
  let v1988 : BitVec 1 := Scalar.cmpi .ne v1987 c0_i32_937
  let v1989 : BitVec 1 := Scalar.andi v1986 v1988
  let v1975 : BitVec 32 := Scalar.divsi arg5 c1_i32_932
  let c1_i32_938 : BitVec 32 := 1#32
  let v1990 : BitVec 32 := Scalar.subi v1975 c1_i32_938
  let v1991 : BitVec 32 := Scalar.select v1989 v1990 v1975
  let c2_i32_940 : BitVec 32 := 2#32
  let v1994 : BitVec 32 := Scalar.muli v1991 c2_i32_940
  let c1_i32_941 : BitVec 32 := 1#32
  let v1995 : BitVec 32 := Scalar.muli v1994 c1_i32_941
  let c1_i32_939 : BitVec 32 := 1#32
  let v1992 : BitVec 32 := Scalar.muli v1991 c1_i32_939
  let v1993 : BitVec 32 := Scalar.subi arg5 v1992
  let v1996 : BitVec 32 := Scalar.addi v1995 v1993
  let c1024_i32_942 : BitVec 32 := 1024#32
  let v1997 : BitVec 32 := Scalar.muli v1996 c1024_i32_942
  let c1024_i32_943 : BitVec 32 := 1024#32
  let v1998 : BitVec 32 := Scalar.addi v1997 c1024_i32_943
  let v2001 : Index := Scalar.indexCast v1998
  let c0_945 : Index := 0#32
  ![v2001.toNat, 0]
@[reducible] def k0_t20_loop : Scf.Loop 32 :=
  let c0_i32_924 : BitVec 32 := 0#32
  let c32_i32_925 : BitVec 32 := 32#32
  let v1970 : BitVec 32 := Scalar.addi c0_i32_924 c32_i32_925
  let c1_i32_926 : BitVec 32 := 1#32
  ⟨c0_i32_924, v1970, c1_i32_926⟩
def k0_off37 (k0_t20 : Fin k0_t20_loop.trips) : Fin 2 → Nat :=
  let c0_i32_924 : BitVec 32 := 0#32
  let c1_i32_926 : BitVec 32 := 1#32
  let arg5 : BitVec 32 := Scf.iv c0_i32_924 c1_i32_926 k0_t20
  let c1024_i32_932 : BitVec 32 := 1024#32
  let v1975 : BitVec 32 := Scalar.muli arg5 c1024_i32_932
  let v1976 : Index := Scalar.indexCast v1975
  let c0_933 : Index := 0#32
  ![v1976.toNat, 0]
abbrev stage0_0 : Fin 1 → Memref sig .tc .vmem S1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S32768x256 : Shape := ⟨2, ![32768, 256]⟩

abbrev nBuf : Space → Nat
  | .hbm => 4
  | .vmem => 0
  | .smem => 0
  | _ => 0

abbrev bufTy : (tb : Table) → Fin (tcTables nBuf tb) → BufTy
  | .hbm, ⟨0, _⟩ => ⟨S32768x256, .bf16⟩
  | .hbm, ⟨1, _⟩ => ⟨S32768x256, .f32⟩
  | .hbm, ⟨2, _⟩ => ⟨S32768x256, .f32⟩
  | .hbm, ⟨3, _⟩ => ⟨S32768x256, .bf16⟩
  | _, _ => ⟨S32768x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Proof.KernelIdeal.Ring.lean ====
/-
The protocol of the kernel's ring, apart from any value: the ring of 32 devices, the gathered buffer cut into its 32
blocks, the semaphore cells of a device, the schedule of their rounds, what a device owes at launch and the levels at
which it may wait.

A device's barrier cell is signalled once by each neighbour. The signal of the device after it hands over that
device's blocks that the ring's 31 copies are going to fill. Hop `h` of device `c` copies block `c - h` of its
gathered buffer into the same block of the next device's; its send cell `h` gives the block back, the receive cell `h`
of the next device hands that device the block it received. No block is written twice and none is written while its
owner reads it.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Rounds.Family
public import Idealize.ShloMosaic.Lib.Tactic

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring

variable {F : FTy → Type} [FloatOps F]

/-! ## The algebra -/

/-- The rounds' algebra over the kernel's cells, duties named by a truth value. -/
abbrev UB : Type := URounds (GSem nD τ sig) Bool
/-- The staging pipeline's algebra beside the ring's. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- No variant is used. -/
abbrev 𝒱₀ : Variants := Variants.none

/-! ## The ring of devices -/

/-- The device after `c`. -/
def nxt (c : Dev nD) : Dev nD := ⟨(c.val + 1) % 32, Nat.mod_lt _ (by decide)⟩
/-- The device before `c`. -/
def prv (c : Dev nD) : Dev nD := ⟨(c.val + 31) % 32, Nat.mod_lt _ (by decide)⟩

theorem prv_nxt (c : Dev nD) : prv (nxt c) = c := by
  obtain ⟨c, hc⟩ := c; have hc' : c < 32 := hc; apply Fin.ext; simp only [prv, nxt]; omega
theorem nxt_prv (c : Dev nD) : nxt (prv c) = c := by
  obtain ⟨c, hc⟩ := c; have hc' : c < 32 := hc; apply Fin.ext; simp only [prv, nxt]; omega

/-- Going round the ring is a permutation of the devices. -/
def ring : Dev nD ≃ Dev nD := ⟨nxt, prv, prv_nxt, nxt_prv⟩

/-- The number of the block `h` places before block `c`, cyclically. -/
def back (c : Dev nD) (h : ℕ) : Fin 32 := ⟨(c.val + 32 - h) % 32, Nat.mod_lt _ (by decide)⟩

theorem back_zero (c : Dev nD) : (back c 0).val = c.val := by
  obtain ⟨c, hc⟩ := c; have hc' : c < 32 := hc; simp only [back]; omega
theorem back_nxt (c : Dev nD) (h : ℕ) (hh : h < 32) : back (nxt c) (h + 1) = back c h := by
  obtain ⟨c, hc⟩ := c; have hc' : c < 32 := hc; apply Fin.ext; simp only [back, nxt]; omega
theorem back_inj (c : Dev nD) {j k : Fin 32} (h : back c j.val = back c k.val) : j = k := by
  obtain ⟨c, hc⟩ := c; have hc' : c < 32 := hc
  have := congrArg Fin.val h; simp only [back] at this
  have hj := j.isLt; have hk := k.isLt; apply Fin.ext; omega

/-- The blocks counted back from block `c`: every block once. -/
def backEquiv (c : Dev nD) : Fin 32 ≃ Fin 32 :=
  Equiv.ofBijective (fun j : Fin 32 => back c j.val) (Finite.injective_iff_bijective.mp fun _ _ h => back_inj c h)

/-! ## The gathered buffer's blocks -/

/-- The gathered buffer of a device. -/
abbrev gM : Memref sig .tc .vmem S32768x256 .bf16 := Memref.whole cc0_scratch0
abbrev xM : Memref sig .tc .vmem S1024x256 .bf16 := Memref.whole cc0_stg0_0
abbrev oM : Memref sig .tc .vmem S1024x256 .bf16 := Memref.whole cc0_stg1_0

/-- The contents of a gathered buffer. -/
abbrev GBuf (F : FTy → Type) : Type := (cc0_scratch0 : Ref sig .tc).ty.Contents (Elt F)

/-- Where block `b` begins. -/
abbrev boff (b : Fin 32) : Fin 2 → ℕ := ![1024 * b.val, 0]

theorem boff_inb (b : Fin 32) : ∀ a, boff b a + S1024x256.size a ≤ S32768x256.size a := by
  intro a
  have hb := b.isLt
  match a with
  | ⟨0, _⟩ => show 1024 * b.val + 1024 ≤ 32768; omega
  | ⟨1, _⟩ => show 0 + 256 ≤ 256; omega

/-- Block `b` as a rectangle of the gathered buffer, and as a slice of it. -/
abbrev brect (b : Fin 32) : Rect S32768x256 := Rect.unit (s := S32768x256) (boff b) S1024x256.size (boff_inb b)
abbrev blkM (b : Fin 32) : Memref sig .tc .vmem S1024x256 .bf16 := gM.slice (brect b) (fun _ => rfl)

/-- The elements of block `b`. -/
def bset (b : Fin 32) : Finset (S32768x256.Idx) := (brect b).set

omit [FloatOps F] in
theorem blkM_set (b : Fin 32) : (blkM b).view.set = bset b := by
  unfold bset
  show ((View.whole cc0_scratch0).slice (brect b)).set = (brect b).set
  exact View.set_slice_whole _ _

theorem bset_disjoint (b b' : Fin 32) (h : b ≠ b') : Disjoint (bset b) (bset b') :=
  lead_disjoint (s := S32768x256) (0 : Fin 2) 1024 boff S1024x256.size boff_inb (fun _ => rfl) rfl b b' h

theorem bset_cover : Finset.univ.biUnion bset = Finset.univ :=
  lead_cover (s := S32768x256) (0 : Fin 2) 1024 boff S1024x256.size boff_inb (fun _ => rfl)
    (fun b a ha => match a, ha with | ⟨0, _⟩, ha => absurd rfl ha | ⟨1, _⟩, _ => rfl) rfl
    (fun a ha => match a, ha with | ⟨0, _⟩, ha => absurd rfl ha | ⟨1, _⟩, _ => rfl) rfl

/-- Device `c` holds block `b` of its gathered buffer, at contents `f`. -/
def blk (c : Dev nD) (b : Fin 32) (f : GBuf F) : sProp 𝕄 := ((c : Thread nD τ).loc cc0_scratch0) ↦[bset b]{fullShare} f

omit [FloatOps F] in
instance blk_storable (c : Dev nD) (b : Fin 32) (f : GBuf F) : BI.Storable (upEmb : UEmb _ 𝕄) (blk c b f) := by
  unfold blk; infer_instance

omit [FloatOps F] in
/-- Only a block's own elements of the contents matter. -/
theorem blk_congr (c : Dev nD) (b : Fin 32) {f f' : GBuf F} (h : ∀ i ∈ bset b, f i = f' i) : blk c b f = blk c b f' :=
  pointsTo_congr h

omit [FloatOps F] in
/-- The whole gathered buffer is its 32 blocks, counted back from any one of them. -/
theorem whole_blocks (c : Dev nD) (a : Dev nD) (f : GBuf F) :
    (((c : Thread nD τ).loc cc0_scratch0) ↦{fullShare} f : sProp 𝕄) = bigSep Finset.univ fun j : Fin 32 => blk c (back a j.val) f := by
  rw [pointsTo_blocks (ℓ := (c : Thread nD τ).loc cc0_scratch0) bset bset_disjoint bset_cover f,
    bigSep_univ_equiv (backEquiv a)]
  rfl

omit [FloatOps F] in
/-- A copy of block `b` from contents `g` leaves `g` on the block, whatever was there. -/
theorem landed_eq (b : Fin 32) (g f : GBuf F) :
    ∀ i ∈ bset b, (blkM b).view.write (Elt F) f ((blkM b).view.read (Elt F) g) Finset.univ i = g i := by
  intro i hi
  rw [View.write_read_eq_piecewise]
  exact Finset.piecewise_eq_of_mem _ _ _ (by
    rw [← blkM_set] at hi; exact hi)

/-! ## The cells -/

/-- The runtime's barrier semaphore. -/
abbrev barS : Sem sig := (SemArray.scalar (sig.barrier 0 rfl) : Sems sig S_).sem

theorem inb31 (h : Fin 31) : ∀ a, (![h.val] : Fin 1 → ℕ) a + S1.size a ≤ S31.size a := by
  intro a
  have hh := h.isLt
  match a with
  | ⟨0, _⟩ => show h.val + 1 ≤ 31; omega

/-- Hop `h`'s send and receive semaphores. -/
abbrev sendS (h : Fin 31) : DmaSem sig :=
  ((cc0_scratch1.slice (Rect.unit (s := S31) ![h.val] S1.size (inb31 h))).squeeze S_ squeezes_S1_S_).sem
abbrev recvS (h : Fin 31) : DmaSem sig :=
  ((cc0_scratch2.slice (Rect.unit (s := S31) ![h.val] S1.size (inb31 h))).squeeze S_ squeezes_S1_S_).sem

theorem sendS_val : ∀ h : Fin 31, (sendS h).val = 2 + h.val := by decide
theorem recvS_val : ∀ h : Fin 31, (recvS h).val = 33 + h.val := by decide

/-- The names of a device's cells: its barrier, its send cells, its receive cells. -/
abbrev CI : Type := Unit ⊕ (Fin 31 ⊕ Fin 31)

/-- A device's own semaphores, and with them its barrier's. -/
abbrev osem : Fin 31 ⊕ Fin 31 → SemLoc sig
  | .inl h => .dma (sendS h)
  | .inr h => .dma (recvS h)
abbrev csem : CI → SemLoc sig
  | .inl _ => .reg barS
  | .inr k => osem k

abbrev kcell (ck : Dev nD × CI) : GSem nD τ sig := ((ck.1 : Thread nD τ), csem ck.2)
abbrev barCell (c : Dev nD) : GSem nD τ sig := ((c : Thread nD τ), .reg barS)
abbrev sendCell (c : Dev nD) (h : Fin 31) : GSem nD τ sig := ((c : Thread nD τ), .dma (sendS h))
abbrev recvCell (c : Dev nD) (h : Fin 31) : GSem nD τ sig := ((c : Thread nD τ), .dma (recvS h))

theorem osem_injective : Function.Injective osem := by
  rintro (h | h) (h' | h') e
  · have := congrArg Fin.val (SemLoc.dma.inj e); rw [sendS_val, sendS_val] at this; exact congrArg _ (Fin.ext (by omega))
  · have := congrArg Fin.val (SemLoc.dma.inj e); rw [sendS_val, recvS_val] at this; have := h.isLt; omega
  · have := congrArg Fin.val (SemLoc.dma.inj e); rw [recvS_val, sendS_val] at this; have := h'.isLt; omega
  · have := congrArg Fin.val (SemLoc.dma.inj e); rw [recvS_val, recvS_val] at this; exact congrArg _ (Fin.ext (by omega))

theorem csem_injective : Function.Injective csem := by
  rintro (u | k) (u' | k') e
  · rfl
  · rcases k' with h | h <;> cases e
  · rcases k with h | h <;> cases e
  · exact congrArg _ (osem_injective e)

theorem kcell_injective : Function.Injective (kcell : Dev nD × CI → GSem nD τ sig) := by
  rintro ⟨c, k⟩ ⟨c', k'⟩ h
  have h1 : c = c' := congrArg (fun g : GSem nD τ sig => g.1.1) h
  subst h1
  have h2 : k = k' := csem_injective (congrArg Prod.snd h)
  subst h2; rfl

theorem recvCell_inj {c c' : Dev nD} {h h' : Fin 31} (e : recvCell c h = recvCell c' h') : c = c' ∧ h = h' := by
  have := kcell_injective (a₁ := (c, .inr (.inr h))) (a₂ := (c', .inr (.inr h'))) e
  exact ⟨congrArg Prod.fst this, Sum.inr.inj (Sum.inr.inj (congrArg Prod.snd this))⟩
theorem barCell_inj {c c' : Dev nD} (e : barCell c = barCell c') : c = c' := congrArg (fun g : GSem nD τ sig => g.1.1) e
theorem recv_ne_bar (c c' : Dev nD) (h : Fin 31) : recvCell c h ≠ barCell c' := fun e => by cases congrArg Prod.snd e

/-- What one copy of a block credits. -/
abbrev N : ℕ := (blkM 0).view.dmaCredit
theorem N_pos : 0 < N := View.dmaCredit_pos _ (by decide)
theorem blkM_credit (b : Fin 32) : (blkM b).view.dmaCredit = N := rfl

/-! ## The schedule -/

/-- What the device after `c` hands `c` with its barrier signal: those of its blocks that `c`'s copies will fill. -/
def barPay (c : Dev nD) : sProp 𝕄 := bigSep Finset.univ fun j : Fin 31 => iprop(∃ f, blk (nxt c) (back c j.val) f)

/-- One round. A barrier cell has two duties of a unit, `false` paid by the device before and `true` by the device
    after; a send or a receive cell has one duty of a block's credit. A send cell gives the copied block back, a
    receive cell hands over the block that arrived, both at the gathered contents `g`. -/
def ringRd (g : GBuf F) : Rounds.Schedule (GSem nD τ sig) Bool 𝕄 where
  duties s r := if r = 0 ∧ s.1.2 = .tc then
      (if s.2 = .reg barS then Finset.univ else if ∃ k, s.2 = osem k then {false} else ∅) else ∅
  unitless _ := False
  amount s _ _ := if s.2 = .reg barS then 1 else N
  payload s _ d :=
    if s.2 = .reg barS then (if d then barPay s.1.1 else iprop(emp))
    else if h : ∃ k, s.2 = osem k then
      (match h.choose with
        | .inl h => blk s.1.1 (back s.1.1 h.val) g
        | .inr h => blk s.1.1 (back s.1.1 (h.val + 1)) g)
    else iprop(emp)
  amount_pos s _ _ _ := by
    by_cases h : s.2 = .reg barS
    · rw [if_pos h]; exact Nat.one_pos
    · rw [if_neg h]; exact N_pos

omit [FloatOps F] in
instance ringRd_storable (g : GBuf F) (s : GSem nD τ sig) (r : ℕ) (d : Bool) :
    BI.Storable (upEmb : UEmb _ 𝕄) ((ringRd g).payload s r d) := by
  dsimp only [ringRd]
  unfold barPay
  repeat' split
  all_goals infer_instance

section Sched

variable (g : GBuf F) (c : Dev nD)

theorem osem_ne_bar (k : Fin 31 ⊕ Fin 31) : osem k ≠ .reg barS := by rcases k with h | h <;> exact fun e => by cases e

omit [FloatOps F] in
theorem duties_bar : (ringRd g).duties (barCell c) 0 = Finset.univ := by
  dsimp only [ringRd]; rw [if_pos ⟨rfl, rfl⟩, if_pos rfl]
omit [FloatOps F] in
theorem duties_own (k : Fin 31 ⊕ Fin 31) : (ringRd g).duties ((c : Thread nD τ), osem k) 0 = {false} := by
  dsimp only [ringRd]; rw [if_pos ⟨rfl, rfl⟩, if_neg (osem_ne_bar k), if_pos ⟨k, rfl⟩]
omit [FloatOps F] in
theorem duties_later (s : GSem nD τ sig) : ∀ r, 1 ≤ r → (ringRd g).duties s r = ∅ :=
  fun r hr => by dsimp only [ringRd]; rw [if_neg fun h => by omega]

omit [FloatOps F] in
theorem amount_bar (d : Bool) : (ringRd g).amount (barCell c) 0 d = 1 := by dsimp only [ringRd]; exact if_pos rfl
omit [FloatOps F] in
theorem amount_own (k : Fin 31 ⊕ Fin 31) (d : Bool) : (ringRd g).amount ((c : Thread nD τ), osem k) 0 d = N := by
  dsimp only [ringRd]; exact if_neg (osem_ne_bar k)

omit [FloatOps F] in
theorem expect_bar : (ringRd g).expect (barCell c) 0 = 2 := by
  unfold Schedule.expect Schedule.amountOf
  rw [duties_bar, Finset.sum_congr rfl fun d _ => amount_bar g c d, Finset.sum_const, Finset.card_univ, Fintype.card_bool, smul_eq_mul]
omit [FloatOps F] in
theorem expect_own (k : Fin 31 ⊕ Fin 31) : (ringRd g).expect ((c : Thread nD τ), osem k) 0 = N := by
  unfold Schedule.expect Schedule.amountOf; rw [duties_own, Finset.sum_singleton, amount_own]

omit [FloatOps F] in
theorem payload_bar_true : (ringRd g).payload (barCell c) 0 true = barPay c := by
  dsimp only [ringRd]; rw [if_pos rfl, if_pos rfl]
omit [FloatOps F] in
theorem payload_bar_false : (ringRd g).payload (barCell c) 0 false = iprop(emp) := by
  dsimp only [ringRd]; rw [if_pos rfl]; exact if_neg Bool.false_ne_true

omit [FloatOps F] in
private theorem payload_own (k : Fin 31 ⊕ Fin 31) (d : Bool) :
    (ringRd g).payload ((c : Thread nD τ), osem k) 0 d
      = (match k with | .inl h => blk c (back c h.val) g | .inr h => blk c (back c (h.val + 1)) g) := by
  dsimp only [ringRd]
  have hex : ∃ k', osem k = osem k' := ⟨k, rfl⟩
  rw [if_neg (osem_ne_bar k), dif_pos hex]
  rw [← osem_injective hex.choose_spec]

omit [FloatOps F] in
theorem payload_send (h : Fin 31) (d : Bool) : (ringRd g).payload (sendCell c h) 0 d = blk c (back c h.val) g :=
  payload_own g c (.inl h) d
omit [FloatOps F] in
theorem payload_recv (h : Fin 31) (d : Bool) : (ringRd g).payload (recvCell c h) 0 d = blk c (back c (h.val + 1)) g :=
  payload_own g c (.inr h) d

omit [FloatOps F] in
/-- The barrier round's payloads: the next device's blocks. -/
theorem rest_bar : bigSep ((ringRd g).duties (barCell c) 0 \ ∅) (fun d => (ringRd g).payload (barCell c) 0 d) = iprop(emp ∗ barPay c) := by
  rw [Finset.sdiff_empty, duties_bar, bigSep_univ_eq_bigSepL [false, true] (by decide) (by decide), bigSepL_cons_cons, bigSepL_singleton,
    payload_bar_false, payload_bar_true]
  rfl
omit [FloatOps F] in
theorem rest_send (h : Fin 31) : bigSep ((ringRd g).duties (sendCell c h) 0 \ ∅) (fun d => (ringRd g).payload (sendCell c h) 0 d)
    = blk c (back c h.val) g := by
  rw [Finset.sdiff_empty, duties_own g c (.inl h), bigSep_singleton, payload_send]
omit [FloatOps F] in
theorem rest_recv (h : Fin 31) : bigSep ((ringRd g).duties (recvCell c h) 0 \ ∅) (fun d => (ringRd g).payload (recvCell c h) 0 d)
    = blk c (back c (h.val + 1)) g := by
  rw [Finset.sdiff_empty, duties_own g c (.inr h), bigSep_singleton, payload_recv]

end Sched

/-! ## What a device owes; the levels -/

/-- The credits of hops `h` to 30, owed to the next device's receive cells. -/
def OH (c : Dev nD) (h : ℕ) : CellTallies nD τ sig Unit :=
  ∑ j ∈ rangeSet 31 h 31, tallyAt (recvCell (nxt c) j) () N
/-- With the unit owed to the next device's barrier, -/
def O₁ (c : Dev nD) : CellTallies nD τ sig Unit := OH c 0 + tallyAt (barCell (nxt c)) () 1
/-- and the one owed to the barrier of the device before: all that a device owes at launch. -/
def O₀ (c : Dev nD) : CellTallies nD τ sig Unit := O₁ c + tallyAt (barCell (prv c)) () 1

theorem OH_succ (c : Dev nD) (h : ℕ) (hh : h < 31) : OH c h = OH c (h + 1) + tallyAt (recvCell (nxt c) ⟨h, hh⟩) () N := by
  unfold OH
  rw [rangeSet_head hh hh, Finset.sum_insert (head_not_mem_rangeSet hh), add_comm]
theorem OH_last (c : Dev nD) : OH c 31 = 0 := by unfold OH; rw [rangeSet_empty (le_refl _), Finset.sum_empty]

/-- Every device waits on its TensorCore's cells at the one index. -/
def L (s : GSem nD τ sig) : Finset Unit := if s.1.2 = .tc then {()} else ∅
/-- Barrier cells at 1, the receive cell of hop `h` (semaphore `33 + h`) at `33 + h`, everything else at 0. -/
def lv (s : GSem nD τ sig) (_ : Unit) : ℕ :=
  match s.2 with
  | .reg _ => 1
  | .dma d => if 33 ≤ d.val then d.val else 0

theorem L_of_ne (s : GSem nD τ sig) (h : s.1.2 ≠ .tc) : L s = ∅ := if_neg h
theorem L_tc (c : Dev nD) (sm : SemLoc sig) : L ((c : Thread nD τ), sm) = {()} := if_pos rfl
theorem lv_bar (c : Dev nD) : lv (barCell c) () = 1 := rfl
theorem lv_recv (c : Dev nD) (h : Fin 31) : lv (recvCell c h) () = 33 + h.val := by
  show (if 33 ≤ (recvS h).val then (recvS h).val else 0) = _
  rw [recvS_val, if_pos (by omega)]
theorem lv_send (c : Dev nD) (h : Fin 31) : lv (sendCell c h) () = 0 := by
  show (if 33 ≤ (sendS h).val then (sendS h).val else 0) = _
  rw [sendS_val, if_neg (by have := h.isLt; omega)]

theorem OH_apply (c : Dev nD) (h : ℕ) (s : GSem nD τ sig) (u : Unit) :
    OH c h s u = ∑ j ∈ rangeSet 31 h 31, tallyAt (recvCell (nxt c) j) () N s u := by
  unfold OH; rw [Finset.sum_apply, Finsupp.finsetSum_apply]

/-- What is owed from hop `h` on is owed to receive cells of hops from `h` on. -/
theorem OH_pos {c : Dev nD} {h : ℕ} {s : GSem nD τ sig} {u : Unit} (hp : 0 < OH c h s u) :
    ∃ j : Fin 31, h ≤ j.val ∧ s = recvCell (nxt c) j := by
  rw [OH_apply] at hp
  obtain ⟨j, hj, hne⟩ := Finset.exists_ne_zero_of_sum_ne_zero hp.ne'
  refine ⟨j, ((mem_rangeSet h 31 j).mp hj).1, ?_⟩
  rw [tallyAt_apply] at hne
  by_contra hn
  exact hne (if_neg fun h' => hn h'.1)

/-- A unit more in one cell: what is positive was so before, or lies in that cell. -/
theorem pos_add_tally {A : CellTallies nD τ sig Unit} {g s : GSem nD τ sig} {u : Unit} {n : ℕ}
    (h : 0 < (A + tallyAt g () n) s u) : 0 < A s u ∨ s = g := by
  by_cases hs : s = g
  · exact Or.inr hs
  · rw [Pi.add_apply, Finsupp.add_apply, tallyAt_apply, if_neg (fun h' => hs h'.1)] at h
    exact Or.inl h

theorem O₀_pos {c : Dev nD} {s : GSem nD τ sig} {u : Unit} (h : 0 < O₀ c s u) :
    (∃ j, s = recvCell (nxt c) j) ∨ s = barCell (nxt c) ∨ s = barCell (prv c) := by
  rcases pos_add_tally h with h | h
  · rcases pos_add_tally h with h | h
    · obtain ⟨j, -, hj⟩ := OH_pos h
      exact Or.inl ⟨j, hj⟩
    · exact Or.inr (Or.inl h)
  · exact Or.inr (Or.inr h)

omit [FloatOps F] in
/-- A wait on a cell of level below 1 is allowed while owing what the launch owes, or nothing. -/
theorem mayWait_low (c : Dev nD) (sm : SemLoc sig) (hq : lv ((c : Thread nD τ), sm) () = 0)
    (O : CellTallies nD τ sig Unit) (hO : O = O₀ c ∨ O = 0) :
    (levAts L lv : sProp 𝕄) ⊢ MayWait (c : Thread nD τ) sm () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨j, rfl⟩ | rfl | rfl <;> exact Finset.mem_singleton_self _)
      (fun p hp => by rw [Finset.mem_singleton.mp hp]; exact le_of_eq hq)
      (fun g u hg => by
        rcases O₀_pos hg with ⟨j, rfl⟩ | rfl | rfl
        · rw [lv_recv]; omega
        · rw [lv_bar]; omega
        · rw [lv_bar]; omega)
  · rw [MayWait_zero]; iintro -; iempintro

omit [FloatOps F] in
/-- A wait on a cell whose level is at most `32 + h` is allowed while owing the credits of hops from `h` on. -/
theorem mayWait_hop (c : Dev nD) (sm : SemLoc sig) (h : ℕ) (hq : lv ((c : Thread nD τ), sm) () ≤ 32 + h) :
    (levAts L lv : sProp 𝕄) ⊢ MayWait (c : Thread nD τ) sm () (OH c h) :=
  MayOwe.of_cut (L := L) (lev := lv) (32 + h) (fun p hp => by rw [Finset.mem_singleton.mp hp, L_tc]; exact Finset.mem_singleton_self _)
    (fun g u hg => by obtain ⟨j, -, rfl⟩ := OH_pos hg; exact Finset.mem_singleton_self _)
    (fun p hp => by rw [Finset.mem_singleton.mp hp]; exact hq)
    (fun g u hg => by
      obtain ⟨j, hj, rfl⟩ := OH_pos hg
      rw [lv_recv]; omega)

end Cert.KernelIdeal.Run

end
-- ==== Proof.KernelIdeal.Hop.lean ====
/-
One hop of the ring all-gather, and the 31 hops as a walk through the states between them.

Before hop `h` a device holds its blocks counted back from its own, `h + 1` of them, at the gathered contents; the
credits and tokens of the hops to come with the blocks of the next device that they will fill; and its positions past
the hops behind it. The hop sends the last block it received and receives one more.
-/
module

public import proofs.«01_k».proof.Proof.KernelIdeal.Ring

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring

variable {F : FTy → Type} [FloatOps F]

local notation "𝕄" => MT nD τ sig Unit (Elt F) ℕ UU ℕ

variable (g : GBuf F) (K : Dev nD × CI → ℕ) (c : Dev nD)

/-! ## What every device knows throughout -/

/-- Every cell's invariant, under the names `K`, and that every cell has reached round 0. -/
def records : sProp 𝕄 :=
  iprop((bigSep Finset.univ fun ck : Dev nD × CI => cellInv ER (ringRd g) (K ck) (kcell ck))
    ∗ bigSep Finset.univ fun ck : Dev nD × CI => reached ER (kcell ck) 0)

instance records_persistent : BI.Persistent (records g K) := by unfold records; infer_instance

omit [FloatOps F] in
theorem records_inv (ck : Dev nD × CI) : records g K ⊢ cellInv ER (ringRd g) (K ck) (kcell ck) := by
  unfold records
  exact (BI.sep_and.trans and_elimL).trans (bigSep_elim (Φ := fun ck : Dev nD × CI => (cellInv ER (ringRd g) (K ck) (kcell ck) : sProp 𝕄)) (Finset.mem_univ ck))
omit [FloatOps F] in
theorem records_reached (ck : Dev nD × CI) : records g K ⊢ reached ER (kcell ck) 0 := by
  unfold records
  exact (BI.sep_and.trans and_elimR).trans (bigSep_elim (Φ := fun ck : Dev nD × CI => (reached ER (kcell ck) 0 : sProp 𝕄)) (Finset.mem_univ ck))

/-! ## The states between hops -/

/-- What hop `j` will use: the positions of its two cells, its credit, the two duties it pays, the next device's block
    it fills. -/
def hopTodo (j : Fin 31) : sProp 𝕄 :=
  iprop(atPos ER (sendCell c j) 0 ∅ 0 ∗ atPos ER (recvCell c j) 0 ∅ 0 ∗ cred (tallyAt (recvCell c j) () N)
    ∗ dutyTok ER (sendCell c j) 0 false ∗ dutyTok ER (recvCell (nxt c) j) 0 false ∗ ∃ f, blk (nxt c) (back c j.val) f)
/-- What hop `j` leaves: its two cells past their round. -/
def hopDone (j : Fin 31) : sProp 𝕄 := iprop(atPos ER (sendCell c j) 1 ∅ 0 ∗ atPos ER (recvCell c j) 1 ∅ 0)

/-- The state before hop `h`. -/
def hopSt (h : ℕ) : sProp 𝕄 :=
  iprop((bigSep (rangeSet 31 h 31) fun j => hopTodo c j) ∗ (bigSep (rangeSet 31 0 h) fun j => hopDone c j)
    ∗ (bigSep (rangeSet 32 0 (h + 1)) fun j => blk c (back c j.val) g) ∗ ∃ W, owes (c : Thread nD τ) (OH c h) W)

/-! ## One hop -/

omit [FloatOps F] in
theorem blk_view (c : Dev nD) (b : Fin 32) (f : GBuf F) :
    blk c b f = ((blkM b).view.loc (c : Thread nD τ) ↦[(blkM b).view.set]{fullShare} f : sProp 𝕄) := by
  unfold blk; rw [blkM_set]

/-- The copy of a hop: block `back c h` of `c` to the next device `n`, whose receive cell gets the duty. -/
theorem wp_hop_send (h : Fin 31) (n : Dev nD) (hn : n = nxt c)
    {hsc : (blkM (back c h.val) : Memref sig (Dev.tc n : Thread nD τ).2.kind .vmem S1024x256 .bf16).view.ref.isScScratch = false}
    {hsrc : (blkM (back c h.val)).view.WordExact}
    {hdst : (blkM (back c h.val) : Memref sig (Dev.tc n : Thread nD τ).2.kind .vmem S1024x256 .bf16).view.WordExact}
    {hsem : DmaTarget.Typed .vmem (.dma (recvS h)) (.remote (Dev.tc n : Thread nD τ) (blkM (back c h.val)) (.dma (sendS h)) hsc)}
    {α : Type} {Q : α → sProp 𝕄} {k : PUnit → Prog (TpuEff nD τ sig (Elt F) Λ₀ .tc) α} (fn : GBuf F) (W : Waits sig Unit) :
    iprop(records g K ∗ blk c (back c h.val) g ∗ blk (nxt c) (back c h.val) fn ∗ owes (c : Thread nD τ) (OH c h.val) W
        ∗ dutyTok ER (sendCell c h) 0 false ∗ dutyTok ER (recvCell (nxt c) h) 0 false)
      ⊢ iprop(((cred (tallyAt (sendCell c h) () N) ∗ owes (c : Thread nD τ) (OH c (h.val + 1)) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (blkM (back c h.val)) (.remote (Dev.tc n : Thread nD τ) (blkM (back c h.val)) (.dma (sendS h)) hsc)
                (.dma (recvS h)) hsrc hdst hsem) k) Q) := by
  subst hn
  rw [blk_view c, blk_view (nxt c)]
  iintro ⟨#HR, Hs, Hd, HO, HtS, HtV⟩
  have hd1 : false ∈ (ringRd (F := F) g).duties (sendCell c h) 0 := by rw [duties_own g c (.inl h)]; exact Finset.mem_singleton_self _
  have hd2 : false ∈ (ringRd (F := F) g).duties (recvCell (nxt c) h) 0 := by rw [duties_own g (nxt c) (.inr h)]; exact Finset.mem_singleton_self _
  have hp1 : ((blkM (back c h.val)).view.loc (c : Thread nD τ) ↦[(blkM (back c h.val)).view.set]{fullShare} g : sProp 𝕄)
      ⊢ (ringRd (F := F) g).payload (sendCell c h) 0 false := by rw [payload_send, blk_view]
  have hp2 : ((blkM (back c h.val)).view.loc (nxt c : Thread nD τ) ↦[(blkM (back c h.val)).view.set]{fullShare}
      ((blkM (back c h.val)).view.write (Elt F) fn ((blkM (back c h.val)).view.read (Elt F) g) Finset.univ) : sProp 𝕄)
      ⊢ (ringRd (F := F) g).payload (recvCell (nxt c) h) 0 false := by
    rw [payload_recv, back_nxt c h.val (by omega), ← blk_view]
    exact Entails.of_eq (blk_congr (nxt c) _ (landed_eq _ g fn))
  have hr : τ.routes (c : Thread nD τ) (nxt c : Thread nD τ) = true := by routes
  have hN : (blkM (back c h.val)).view.amount (SemLoc.dma (recvS h)) = N := rfl
  iapply (Rounds.wp_send_pointsTo 𝒱₀ ER (ringRd g) (c : Thread nD τ) none (κ₁ := K (c, .inr (.inl h))) (κ₂ := K (nxt c, .inr (.inr h)))
    (r₁ := 0) (r₂ := 0) (d₁ := false) (d₂ := false) (fd := fn) hd1 hd2
    () () N hN (amount_own g c (.inl h) false) (amount_own g (nxt c) (.inr h) false) (OH c (h.val + 1)) (OH_succ c h.val h.isLt) (W := W)
    hp1 hp2 (hr := hr)) $$ [Hs Hd HO HtS HtV]
  isplitr; · iapply (records_inv g K (c, .inr (.inl h))); iexact HR
  isplitr; · iapply (records_inv g K (nxt c, .inr (.inr h))); iexact HR
  isplitl [Hs]; · iexact Hs
  isplitl [Hd]; · iexact Hd
  isplitl [HO]; · iexact HO
  isplitl [HtS]; · iexact HtS
  isplitr; · iapply (records_reached g K (c, .inr (.inl h))); iexact HR
  isplitl [HtV]; · iexact HtV
  iapply (records_reached g K (nxt c, .inr (.inr h))); iexact HR

/-- A whole hop takes the state before it to the state before the next. -/
theorem wp_hop (h : Fin 31) (n : Dev nD) (hn : n = nxt c) (off : Fin 2 → ℕ) (hoff : off = boff (back c h.val))
    {inb : ∀ a, off a + S1024x256.size a ≤ S32768x256.size a}
    {hsc : (gM.slice (Rect.unit (s := S32768x256) off S1024x256.size inb) (fun _ => rfl) : Memref sig (Dev.tc n : Thread nD τ).2.kind .vmem S1024x256 .bf16).view.ref.isScScratch = false}
    {hsrc : (gM.slice (Rect.unit (s := S32768x256) off S1024x256.size inb) (fun _ => rfl)).view.WordExact}
    {hdst : (gM.slice (Rect.unit (s := S32768x256) off S1024x256.size inb) (fun _ => rfl) : Memref sig (Dev.tc n : Thread nD τ).2.kind .vmem S1024x256 .bf16).view.WordExact}
    {hsem : DmaTarget.Typed .vmem (.dma (recvS h)) (.remote (Dev.tc n : Thread nD τ)
      (gM.slice (Rect.unit (s := S32768x256) off S1024x256.size inb) (fun _ => rfl)) (.dma (sendS h)) hsc)}
    {h1 h2 h3 h4 : (gM.slice (Rect.unit (s := S32768x256) off S1024x256.size inb) (fun _ => rfl)).view.WordExact}
    {α : Type} {Q : α → sProp 𝕄} {k : PUnit → Prog (TpuEff nD τ sig (Elt F) Λ₀ .tc) α} :
    iprop(records g K ∗ levAts L lv ∗ hopSt g c h.val)
      ⊢ iprop((hopSt g c (h.val + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (gM.slice (Rect.unit (s := S32768x256) off S1024x256.size inb) (fun _ => rfl))
                (.remote (Dev.tc n : Thread nD τ) (gM.slice (Rect.unit (s := S32768x256) off S1024x256.size inb) (fun _ => rfl)) (.dma (sendS h)) hsc)
                (.dma (recvS h)) hsrc hdst hsem) fun _ =>
               .op (.waitDma2 (sendS h) (gM.slice (Rect.unit (s := S32768x256) off S1024x256.size inb) (fun _ => rfl))
                (gM.slice (Rect.unit (s := S32768x256) off S1024x256.size inb) (fun _ => rfl)) h1 h2) fun _ =>
               .op (.waitDma2 (recvS h) (gM.slice (Rect.unit (s := S32768x256) off S1024x256.size inb) (fun _ => rfl))
                (gM.slice (Rect.unit (s := S32768x256) off S1024x256.size inb) (fun _ => rfl)) h3 h4) k) Q) := by
  subst hoff
  unfold hopSt
  have hh := h.isLt
  iintro ⟨#HR, #Hlev, Htodo, Hdone, Hblk, %W, HO⟩ Hk
  ihave Ht := (Entails.of_eq (bigSep_rangeSet_head (Φ := fun j => hopTodo (F := F) c j) hh hh)) $$ Htodo
  icases Ht with ⟨Hh, Htodo⟩
  ihave Hb := (Entails.of_eq (bigSep_rangeSet_last (Φ := fun j : Fin 32 => blk c (back c j.val) g) (lo := 0) (hi := h.val + 1) (by omega) (by omega))) $$ Hblk
  icases Hb with ⟨Hs, Hblk⟩
  unfold hopTodo
  icases Hh with ⟨HaS, HaV, HcV, HtS, HtV, %fn, Hd⟩
  iapply (wp_hop_send g K c h n hn fn W) $$ [Hs Hd HO HtS HtV]
  · isplitr; · iexact HR
    isplitl [Hs]; · iexact Hs
    isplitl [Hd]; · iexact Hd
    isplitl [HO]; · iexact HO
    isplitl [HtS] <;> iassumption
  iintro ⟨HcS, HO⟩
  iapply (Rounds.wp_wait_rest_token 𝒱₀ ER (ringRd g) (c : Thread nD τ) none (κ := K (c, .inr (.inl h)))
      (wpE_waitDma2_eq 𝒱₀ (c : Thread nD τ) none Set.univ) (Set.mem_univ _) () (O := OH c (h.val + 1)) (W := W) (R := 0) (m := 0) (T := ∅)
      (by rw [Nat.zero_add]; exact (expect_own g c (.inl h)).symm)) $$ [HcS HO HaS]
  · isplitr; · iapply (records_inv g K (c, .inr (.inl h))); iexact HR
    isplitl [HcS]; · iexact HcS
    isplitl [HO]; · iexact HO
    isplitr; · iapply (mayWait_hop c (.dma (sendS h)) (h.val + 1) (by rw [lv_send]; omega)); iexact Hlev
    iexact HaS
  iintro ⟨HO, HaS, -, Hpay⟩
  ihave Hs := (Entails.of_eq (rest_send g c h)) $$ Hpay
  iapply (Rounds.wp_wait_rest_token 𝒱₀ ER (ringRd g) (c : Thread nD τ) none (κ := K (c, .inr (.inr h)))
      (wpE_waitDma2_eq 𝒱₀ (c : Thread nD τ) none Set.univ) (Set.mem_univ _) () (O := OH c (h.val + 1))
      (W := insert (SemLoc.dma (sendS h), ()) W) (R := 0) (m := 0) (T := ∅)
      (by rw [Nat.zero_add]; exact (expect_own g c (.inr h)).symm)) $$ [HcV HO HaV]
  · isplitr; · iapply (records_inv g K (c, .inr (.inr h))); iexact HR
    isplitl [HcV]; · iexact HcV
    isplitl [HO]; · iexact HO
    isplitr; · iapply (mayWait_hop c (.dma (recvS h)) (h.val + 1) (by rw [lv_recv]; omega)); iexact Hlev
    iexact HaV
  iintro ⟨HO, HaV, -, Hpay⟩
  ihave Hv := (Entails.of_eq (rest_recv g c h)) $$ Hpay
  iapply Hk
  isplitl [Htodo]; · iexact Htodo
  isplitl [Hdone HaS HaV]
  · iapply (Entails.of_eq (bigSep_rangeSet_last (Φ := fun j => hopDone (F := F) c j) (lo := 0) (hi := h.val + 1) (by omega) (by omega)).symm)
    isplitl [HaS HaV]
    · unfold hopDone
      isplitl [HaS]; · iexact HaS
      iexact HaV
    iexact Hdone
  isplitl [Hs Hv Hblk]
  · iapply (Entails.of_eq (bigSep_rangeSet_last (Φ := fun j : Fin 32 => blk c (back c j.val) g) (lo := 0) (hi := h.val + 1 + 1) (by omega) (by omega)).symm)
    isplitl [Hv]; · iexact Hv
    iapply (Entails.of_eq (bigSep_rangeSet_last (Φ := fun j : Fin 32 => blk c (back c j.val) g) (lo := 0) (hi := h.val + 1) (by omega) (by omega)).symm)
    isplitl [Hs]; · iexact Hs
    iexact Hblk
  iexists _; iexact HO

end Cert.KernelIdeal.Run

end
-- ==== Proof.KernelIdeal.Stage.lean ====
/-
The kernel's compare-exchange of one block, as it is written with vector operations: the rows at distance `j` are
brought together by rotating the block both ways and choosing by bit `j` of the row number; a row keeps the smaller or
the larger of the pair by that bit and the direction asked of it.

`blockSort` is the sort of one block (ten levels, one direction per block), `chunkSort` the ten last steps of a merge
inside one block.
-/
module

public import proofs.«01_k».proof.Proof.KernelIdeal.Ring

@[expose] public section

noncomputable section

namespace Cert.KernelIdeal.Run

open Cert.KernelIdeal Cert.KernelIdeal.Gen

open Idealize.ShloMosaic

variable {F : FTy → Type} [FloatOps F]

/-- One block of the gathered buffer. -/
abbrev Blk (F : FTy → Type) : Type := FVec F S1024x256 .bf16

theorem slice_ok (o n : ℕ) (h : o + n ≤ 1024) : S1024x256.Slices ![o, 0] ⟨2, ![n, 256]⟩ :=
  ⟨rfl, fun a => match a with
    | ⟨0, _⟩ => h
    | ⟨1, _⟩ => Nat.le_refl 256⟩

theorem concat_ok (n n' : ℕ) (h : n + n' = 1024) : Shape.Concatenates [⟨2, ![n, 256]⟩, ⟨2, ![n', 256]⟩] S1024x256 0 := by
  refine ⟨le_refl 2, fun s hs => ?_, ?_⟩
  · rcases List.mem_pair.mp hs with rfl | rfl
    · exact ⟨rfl, fun b hb => match b, hb with | ⟨0, _⟩, hb => absurd rfl hb | ⟨1, _⟩, _ => rfl⟩
    · exact ⟨rfl, fun b hb => match b, hb with | ⟨0, _⟩, hb => absurd rfl hb | ⟨1, _⟩, _ => rfl⟩
  · show n + (n' + 0) = 1024
    omega

/-- The row numbers. -/
def rowsV : IVec S1024x1 32 := iota .tc S1024x1 32 [0] iota_S1024x1_d0_w32
/-- Where bit `j` of the row number is clear. -/
def bitV (j : ℕ) : IVec S1024x1 1 := cmpi .eq (andi rowsV (broadcast S1024x1 (BitVec.ofNat 32 j))) (broadcast S1024x1 0#32)
/-- A row mask over the whole block. -/
def spread (m : IVec S1024x1 1) : IVec S1024x256 1 :=
  broadcastTo S1024x256 (shapeCast S1024x1 m shapeCasts_S1024x1_S1024x1) broadcasts_S1024x1_S1024x256
/-- The rows from `o` on, `n` of them. -/
def rowsAt (o n : ℕ) (h : o + n ≤ 1024) (v : Blk F) : FVec F ⟨2, ![n, 256]⟩ .bf16 := extractStridedSlice _ ![o, 0] v (slice_ok o n h)
/-- One run of rows above another. -/
def stack (n n' : ℕ) (h : n + n' = 1024) (a : FVec F ⟨2, ![n, 256]⟩ .bf16) (b : FVec F ⟨2, ![n', 256]⟩ .bf16) : Blk F :=
  concatenate S1024x256 0 [⟨⟨2, ![n, 256]⟩, a⟩, ⟨⟨2, ![n', 256]⟩, b⟩] (concat_ok n n' h)
/-- The block rotated so that a row holds what is `j` rows below it, -/
def upV (j : ℕ) (h : j ≤ 1024) (v : Blk F) : Blk F :=
  stack (1024 - j) j (by omega) (rowsAt j (1024 - j) (by omega) v) (rowsAt 0 j (by omega) v)
/-- or what is `j` rows above it. -/
def dnV (j : ℕ) (h : j ≤ 1024) (v : Blk F) : Blk F :=
  stack j (1024 - j) (by omega) (rowsAt (1024 - j) j (by omega) v) (rowsAt 0 (1024 - j) (by omega) v)
/-- Each row's partner at distance `j`. -/
def partnerV (j : ℕ) (h : j ≤ 1024) (v : Blk F) : Blk F := select (spread (bitV j)) (upV j h v) (dnV j h v)
/-- Where the smaller of a pair goes: rows with bit `j` clear where the direction is up, the others where it is down. -/
def keepMin (j : ℕ) (asc : IVec S1024x1 1) : IVec S1024x1 1 := xori (xori (bitV j) asc) (constantI S1024x1 1 1#1)
/-- One compare-exchange at distance `j`. -/
def cmpx (j : ℕ) (h : j ≤ 1024) (asc : IVec S1024x1 1) (v : Blk F) : Blk F :=
  select (spread (keepMin j asc)) (minimumf v (partnerV j h v)) (maximumf v (partnerV j h v))

/-- The directions of a block sort's level that makes runs of `k` rows, all turned round where `flip` is set. -/
def ascV (k : ℕ) (flip : BitVec 1) : IVec S1024x1 1 := xori (bitV k) (broadcast S1024x1 flip)
/-- One direction for a whole block. -/
def ascAll (up : BitVec 1) : IVec S1024x1 1 := broadcastTo S1024x1 (broadcast S1024x1 up) broadcasts_S1024x1_S1024x1

/-- The compare-exchanges at distances `2 ^ (n - 1)`, …, 2, 1. -/
def steps (asc : IVec S1024x1 1) : (n : ℕ) → n ≤ 10 → Blk F → Blk F
  | 0, _, v => v
  | n + 1, h, v => steps asc n (by omega) (cmpx (2 ^ n) (Nat.pow_le_pow_right (n := 2) (by decide) (show n ≤ 10 by omega)) asc v)

/-- The ten last steps of a merge, inside one block. -/
def chunkSort (up : BitVec 1) (v : Blk F) : Blk F := steps (ascAll up) 10 (le_refl 10) v

/-- The first `l` levels of a block's sort, -/
def levels (flip : BitVec 1) : (l : ℕ) → l ≤ 10 → Blk F → Blk F
  | 0, _, v => v
  | l + 1, h, v => steps (ascV (2 ^ (l + 1)) flip) (l + 1) h (levels flip l (by omega) v)
/-- and the whole sort. -/
def blockSort (flip : BitVec 1) (v : Blk F) : Blk F := levels flip 10 (le_refl 10) v

end Cert.KernelIdeal.Run

end
-- ==== Proof.KernelIdeal.Merge.lean ====
/-
What the merge does to the gathered buffer's contents, block by block: a pair trip puts the smaller and the larger
elements of two blocks where the merge's direction wants them, a chunk trip runs the ten last steps inside one block.

`mergeAll` is the whole merge: for runs of 2, 4, 8, 16 and 32 blocks the pair passes at falling distance and one chunk
pass.
-/
module

public import proofs.«01_k».proof.Proof.KernelIdeal.Stage

@[expose] public section

noncomputable section

namespace Cert.KernelIdeal.Run

open Cert.KernelIdeal Cert.KernelIdeal.Gen

open Idealize.ShloMosaic
open Idealize.ShloMosaic.TcCoe

variable {F : FTy → Type} [FloatOps F]

/-- Block `b` of contents `f`, as a load reads it, -/
def rd (b : Fin 32) (f : GBuf F) : Blk F := (gM.access (brect b)).read (Elt F) f
/-- and `f` with block `b` replaced by `w`, as a store leaves it. -/
def upd (b : Fin 32) (w : Blk F) (f : GBuf F) : GBuf F := (gM.access (brect b)).write (Elt F) f w Finset.univ

theorem rd_apply (b : Fin 32) (f : GBuf F) (y : S1024x256.Idx) : rd b f y = f ((brect b).emb y) := rfl

theorem rd_upd_self (b : Fin 32) (w : Blk F) (f : GBuf F) : rd b (upd b w f) = w := View.read_write_univ _ _

theorem acc_set (b : Fin 32) : (gM.access (brect b)).set = bset b := by
  unfold bset
  show ((View.whole cc0_scratch0).slice (brect b)).set = (brect b).set
  exact View.set_slice_whole _ _

theorem emb_mem (b : Fin 32) (y : S1024x256.Idx) : (brect b).emb y ∈ bset b := by
  rw [← acc_set]
  exact View.emb_mem_set (gM.access (brect b)) y

/-- The contents whose blocks are `w`. -/
def gath (w : Fin 32 → Blk F) : GBuf F := fun i =>
  w ⟨(i (0 : Fin 2)).val / 1024, by have h : (i (0 : Fin 2)).val < 32768 := (i 0).isLt; omega⟩
    (fun a => match a with
      | ⟨0, _⟩ => ⟨(i (0 : Fin 2)).val % 1024, Nat.mod_lt _ (by decide)⟩
      | ⟨1, _⟩ => i (1 : Fin 2))

theorem rd_gath (w : Fin 32 → Blk F) (b : Fin 32) : rd b (gath w) = w b := by
  funext y
  rw [rd_apply]
  have h0 : (((brect b).emb y) (0 : Fin 2)).val = 1024 * b.val + (y (0 : Fin 2)).val := by
    rw [Rect.emb_apply]; show 1024 * b.val + 1 * _ = _; omega
  have h1 : (((brect b).emb y) (1 : Fin 2)).val = (y (1 : Fin 2)).val := by
    rw [Rect.emb_apply]; show 0 + 1 * _ = _; omega
  have hy : (y (0 : Fin 2)).val < 1024 := (y 0).isLt
  have hb : (⟨(((brect b).emb y) (0 : Fin 2)).val / 1024, by rw [h0]; have := b.isLt; omega⟩ : Fin 32) = b := Fin.ext (by
    show (((brect b).emb y) (0 : Fin 2)).val / 1024 = b.val
    rw [h0]; omega)
  unfold gath
  refine (congrArg (fun q : Fin 32 => w q _) hb).trans (congrArg (w b) ?_)
  funext a
  match a with
  | ⟨0, _⟩ => apply Fin.ext; show (((brect b).emb y) (0 : Fin 2)).val % 1024 = _; rw [h0]; show _ = (y (0 : Fin 2)).val; omega
  | ⟨1, _⟩ => exact Fin.ext h1

theorem upd_off (b : Fin 32) (w : Blk F) (f : GBuf F) : ∀ i, i ∉ bset b → upd b w f i = f i := by
  intro i hi
  have h : upd b w f = upd b (rd b (gath fun _ => w)) f := by rw [rd_gath]
  rw [h]
  unfold upd rd
  rw [View.write_read_eq_piecewise]
  exact Finset.piecewise_eq_of_notMem _ _ _ (by rw [← acc_set] at hi; exact hi)

theorem rd_upd_ne {b b' : Fin 32} (h : b' ≠ b) (w : Blk F) (f : GBuf F) : rd b' (upd b w f) = rd b' f := by
  funext y
  rw [rd_apply, rd_apply]
  exact upd_off b w f _ fun hi => Finset.disjoint_left.mp (bset_disjoint b' b h) (emb_mem b' y) hi

/-- A store of `w b` to block `b` leaves the gathered contents there. -/
theorem upd_gath (w : Fin 32 → Blk F) (b : Fin 32) (f : GBuf F) : ∀ i ∈ bset b, upd b (w b) f i = gath w i := by
  intro i hi
  rw [← acc_set] at hi
  obtain ⟨y, -, rfl⟩ := Finset.mem_map.mp hi
  have h := congrFun ((rd_upd_self b (w b) f).trans (rd_gath w b).symm) y
  rw [rd_apply, rd_apply] at h
  exact h

/-- Block number `n`, cyclically. -/
def bno (n : ℕ) : Fin 32 := ⟨n % 32, Nat.mod_lt _ (by decide)⟩

/-- The direction of block `n` in the merge of runs of `2 ^ (m + 1)` blocks: up where bit `m + 1` of its number is
    clear. -/
def upBit (m n : ℕ) : BitVec 1 := if n.testBit (m + 1) then 0#1 else 1#1

/-- The lower block of pair `k` at a distance of `2 ^ s` blocks. -/
def pairLow (s k : ℕ) : ℕ := k / 2 ^ s * 2 ^ (s + 1) + k % 2 ^ s

/-- One pair of blocks compared and exchanged, element by element. -/
def pairTrip (m s k : ℕ) (f : GBuf F) : GBuf F :=
  let a := rd (bno (pairLow s k)) f
  let b := rd (bno (pairLow s k + 2 ^ s)) f
  let u := upBit m (pairLow s k)
  upd (bno (pairLow s k + 2 ^ s)) (Scalar.select u (maximumf a b) (minimumf a b))
    (upd (bno (pairLow s k)) (Scalar.select u (minimumf a b) (maximumf a b)) f)

/-- One block's last ten steps. -/
def chunkTrip (m k : ℕ) (f : GBuf F) : GBuf F := upd (bno k) (chunkSort (upBit m k) (rd (bno k) f)) f

/-- Steps `0`, …, `n - 1` one after the other. -/
def iter {α : Type} (step : ℕ → α → α) (x : α) : ℕ → α
  | 0 => x
  | n + 1 => step n (iter step x n)

def pairLoop (m s : ℕ) (f : GBuf F) : GBuf F := iter (pairTrip m s) f 16
def chunkLoop (m : ℕ) (f : GBuf F) : GBuf F := iter (chunkTrip m) f 32

/-- The pair passes at distances `2 ^ (n - 1)`, …, 2, 1 blocks. -/
def pairLoops (m : ℕ) : ℕ → GBuf F → GBuf F
  | 0, f => f
  | n + 1, f => pairLoops m n (pairLoop m n f)

/-- The merge into runs of `2 ^ (m + 1)` blocks. -/
def mergeLevel (m : ℕ) (f : GBuf F) : GBuf F := chunkLoop m (pairLoops m (m + 1) f)

/-- The five merges. -/
def mergeAll (f : GBuf F) : GBuf F := iter mergeLevel f 5

end Cert.KernelIdeal.Run

end
-- ==== Proof.KernelIdeal.Trips.lean ====
/-
The merge's loops, run: what one trip of a pair loop or of a chunk loop does to the gathered buffer, stated once for
each of the two shapes of trip, and the loops.
-/
module

public import proofs.«01_k».proof.Proof.KernelIdeal.Merge

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring

variable {F : FTy → Type} [FloatOps F]

local notation "𝕄" => MT nD τ sig Unit (Elt F) ℕ UU ℕ

/-- Device `c`'s gathered buffer holds `f`. -/
abbrev gP (c : Dev nD) (f : GBuf F) : sProp 𝕄 := ((c : Thread nD τ).loc cc0_scratch0) ↦{fullShare} f

abbrev PackedAt (o : Fin 2 → ℕ) (i : ∀ a, o a + S1024x256.size a ≤ S32768x256.size a) : Prop :=
  (Rect.unit (s := S32768x256) o S1024x256.size i).PackedRows (EltTy.packing .bf16)

/-- A load of the block at `o`, -/
abbrev ldE (o : Fin 2 → ℕ) (i : ∀ a, o a + S1024x256.size a ≤ S32768x256.size a) :
    TpuEff nD τ sig (Elt F) Λ₀ .tc ((Rect.unit (s := S32768x256) o S1024x256.size i).shape.Idx → Elt F .bf16) :=
  .load gM (Rect.unit (s := S32768x256) o S1024x256.size i).toLoadRect (View.loadsAt_vmem h_S1024x256)
/-- and a store to it. -/
abbrev stE (o : Fin 2 → ℕ) (i : ∀ a, o a + S1024x256.size a ≤ S32768x256.size a) (p : PackedAt o i) (w : Blk F) :
    TpuEff nD τ sig (Elt F) Λ₀ .tc PUnit :=
  .store gM (Rect.unit (s := S32768x256) o S1024x256.size i) w Finset.univ
    (View.stores_vmem h_S1024x256 ((Memref.isWhole_whole _).storeExact_slice rfl _ p) (fun _ => rfl)) (.inl rfl)

/-- A pair trip's operations. -/
abbrev pairProg (oA oB : Fin 2 → ℕ) (iA : ∀ a, oA a + S1024x256.size a ≤ S32768x256.size a)
    (iB : ∀ a, oB a + S1024x256.size a ≤ S32768x256.size a) (pA : PackedAt oA iA) (pB : PackedAt oB iB)
    (wA wB : Blk F → Blk F → Blk F) : Prog (TpuEff nD τ sig (Elt F) Λ₀ .tc) Unit :=
  .op (ldE oA iA) fun a => .op (ldE oB iB) fun b => .op (ldE oA iA) fun _ => .op (stE oA iA pA (wA a b)) fun _ =>
  .op (ldE oB iB) fun _ => .op (stE oB iB pB (wB a b)) fun _ => .ret ()

/-- A chunk trip's operations. -/
abbrev chunkProg (o : Fin 2 → ℕ) (i : ∀ a, o a + S1024x256.size a ≤ S32768x256.size a) (p : PackedAt o i)
    (w : Blk F → Blk F) : Prog (TpuEff nD τ sig (Elt F) Λ₀ .tc) Unit :=
  .op (ldE o i) fun a => .op (ldE o i) fun _ => .op (stE o i p (w a)) fun _ => .ret ()

/-- A load of block `b` of a gathered buffer held whole, -/
theorem wp_ld (c : Dev nD) (b : Fin 32) {i} {β : Type} {k : Blk F → Prog (TpuEff nD τ sig (Elt F) Λ₀ .tc) β} {Q : β → sProp 𝕄} (f : GBuf F) :
    gP c f ⊢ iprop((gP c f -∗ wp frame (wpE (defs₀ (F := F)) 𝒱₀ (c : Thread nD τ) none) Set.univ (k (rd b f)) Q)
      -∗ wp frame (wpE (defs₀ (F := F)) 𝒱₀ (c : Thread nD τ) none) Set.univ (.op (ldE (boff b) i) k) Q) := by
  have h := wp_load_rect (Γ := .empty) (defs := defs₀ (F := F)) 𝒱₀ (c : Thread nD τ) none Set.univ (m := gM) (r := brect b) (hl := View.loadsAt_vmem h_S1024x256) (k := k) (Q := Q) (q := fullShare) (f := f) (S := Finset.univ) (Finset.subset_univ _)
  exact h

/-- and a store to it. -/
theorem wp_st (c : Dev nD) (b : Fin 32) {i p} {w : Blk F} {β : Type} {k : PUnit → Prog (TpuEff nD τ sig (Elt F) Λ₀ .tc) β} {Q : β → sProp 𝕄} (f : GBuf F) :
    gP c f ⊢ iprop((gP c (upd b w f) -∗ wp frame (wpE (defs₀ (F := F)) 𝒱₀ (c : Thread nD τ) none) Set.univ (k ⟨⟩) Q)
      -∗ wp frame (wpE (defs₀ (F := F)) 𝒱₀ (c : Thread nD τ) none) Set.univ (.op (stE (boff b) i p w) k) Q) := by
  have h := wp_store (Γ := .empty) (defs := defs₀ (F := F)) 𝒱₀ (c : Thread nD τ) none Set.univ (m := gM) (r := brect b) (w := w) (Mk := Finset.univ) (hx := View.stores_vmem h_S1024x256 ((Memref.isWhole_whole _).storeExact_slice rfl _ p) (fun _ => rfl)) (hm := .inl rfl) (k := k) (Q := Q) (f := f) (S := Finset.univ) (Finset.subset_univ _)
  exact h

/-- Program `q` is trip `k` of the pair pass at `2 ^ s` blocks in merge `m`. -/
def IsPair (m s k : ℕ) (q : Prog (TpuEff nD τ sig (Elt F) Λ₀ .tc) Unit) : Prop :=
  ∃ oA oB iA iB pA pB wA wB, q = pairProg oA oB iA iB pA pB wA wB
    ∧ oA = boff (bno (pairLow s k)) ∧ oB = boff (bno (pairLow s k + 2 ^ s))
    ∧ (∀ a b, wA a b = Scalar.select (upBit m (pairLow s k)) (minimumf a b) (maximumf a b))
    ∧ ∀ a b, wB a b = Scalar.select (upBit m (pairLow s k)) (maximumf a b) (minimumf a b)

/-- Program `q` is trip `k` of the chunk pass of merge `m`. -/
def IsChunk (m k : ℕ) (q : Prog (TpuEff nD τ sig (Elt F) Λ₀ .tc) Unit) : Prop :=
  ∃ o i p w, q = chunkProg o i p w ∧ o = boff (bno k) ∧ ∀ a, w a = chunkSort (upBit m k) a

/-- A pair trip, run. -/
theorem wp_pair (c : Dev nD) {m s k : ℕ} {q} (h : IsPair (F := F) m s k q) (f : GBuf F) :
    gP c f ⊢ wp frame (wpE (defs₀ (F := F)) 𝒱₀ (c : Thread nD τ) none) Set.univ q fun _ => gP c (pairTrip m s k f) := by
  obtain ⟨oA, oB, iA, iB, pA, pB, wA, wB, rfl, rfl, rfl, hA, hB⟩ := h
  iintro H
  iapply wp_ld c $$ H; iintro H
  iapply wp_ld c $$ H; iintro H
  iapply wp_ld c $$ H; iintro H
  iapply wp_st c $$ H; iintro H
  iapply wp_ld c $$ H; iintro H
  iapply wp_st c $$ H; iintro H
  rw [hA, hB]
  rw [wp_ret]
  imodintro
  iexact H

/-- A chunk trip, run. -/
theorem wp_chunk (c : Dev nD) {m k : ℕ} {q} (h : IsChunk (F := F) m k q) (f : GBuf F) :
    gP c f ⊢ wp frame (wpE (defs₀ (F := F)) 𝒱₀ (c : Thread nD τ) none) Set.univ q fun _ => gP c (chunkTrip m k f) := by
  obtain ⟨o, i, p, w, rfl, rfl, hw⟩ := h
  iintro H
  iapply wp_ld c $$ H; iintro H
  iapply wp_ld c $$ H; iintro H
  iapply wp_st c $$ H; iintro H
  rw [hw]
  rw [wp_ret]
  imodintro
  iexact H

/-- A counted loop whose trips step the gathered buffer's contents. -/
theorem wp_steps (c : Dev nD) (step : ℕ → GBuf F → GBuf F) (l : Scf.Loop 32) (ok) (body : Fin l.trips → Unit → Prog (TpuEff nD τ sig (Elt F) Λ₀ .tc) Unit)
    (hb : ∀ (k : Fin l.trips) f, gP c f ⊢ wp frame (wpE (defs₀ (F := F)) 𝒱₀ (c : Thread nD τ) none) Set.univ (body k ()) fun _ => gP c (step k f))
    {β : Type} {kk : Unit → Prog (TpuEff nD τ sig (Elt F) Λ₀ .tc) β} {Q : β → sProp 𝕄} (f : GBuf F) :
    gP c f ⊢ iprop((gP c (iter step f l.trips) -∗ wp frame (wpE (defs₀ (F := F)) 𝒱₀ (c : Thread nD τ) none) Set.univ (kk ()) Q)
      -∗ wp frame (wpE (defs₀ (F := F)) 𝒱₀ (c : Thread nD τ) none) Set.univ (Scf.Loop.for l ok ⟨⟩ body >>= kk) Q) := by
  iintro H HK
  iapply (Scf.wp_for_bind frame (wpE (defs₀ (F := F)) 𝒱₀ (c : Thread nD τ) none) Set.univ l.lb l.ub l.st ok () body
    (fun n _ => gP c (iter step f n)) (fun k _ => hb k _)) $$ [H]
  · iexact H
  · iintro %acc H
    iapply HK
    iexact H

/-- A pair loop, run. -/
theorem wp_pairs (c : Dev nD) (m s : ℕ) (l : Scf.Loop 32) (ok) (body : Fin l.trips → Unit → Prog (TpuEff nD τ sig (Elt F) Λ₀ .tc) Unit)
    (hl : l.trips = 16) (hb : ∀ k : Fin l.trips, IsPair m s k (body k ()))
    {β : Type} {kk : Unit → Prog (TpuEff nD τ sig (Elt F) Λ₀ .tc) β} {Q : β → sProp 𝕄} (f : GBuf F) :
    gP c f ⊢ iprop((gP c (pairLoop m s f) -∗ wp frame (wpE (defs₀ (F := F)) 𝒱₀ (c : Thread nD τ) none) Set.univ (kk ()) Q)
      -∗ wp frame (wpE (defs₀ (F := F)) 𝒱₀ (c : Thread nD τ) none) Set.univ (Scf.Loop.for l ok ⟨⟩ body >>= kk) Q) := by
  have h := wp_steps c (pairTrip m s) l ok body (fun k f => wp_pair c (hb k) f) (kk := kk) (Q := Q) f
  rwa [hl] at h

/-- A chunk loop, run. -/
theorem wp_chunks (c : Dev nD) (m : ℕ) (l : Scf.Loop 32) (ok) (body : Fin l.trips → Unit → Prog (TpuEff nD τ sig (Elt F) Λ₀ .tc) Unit)
    (hl : l.trips = 32) (hb : ∀ k : Fin l.trips, IsChunk m k (body k ()))
    {β : Type} {kk : Unit → Prog (TpuEff nD τ sig (Elt F) Λ₀ .tc) β} {Q : β → sProp 𝕄} (f : GBuf F) :
    gP c f ⊢ iprop((gP c (chunkLoop m f) -∗ wp frame (wpE (defs₀ (F := F)) 𝒱₀ (c : Thread nD τ) none) Set.univ (kk ()) Q)
      -∗ wp frame (wpE (defs₀ (F := F)) 𝒱₀ (c : Thread nD τ) none) Set.univ (Scf.Loop.for l ok ⟨⟩ body >>= kk) Q) := by
  have h := wp_steps c (chunkTrip m) l ok body (fun k f => wp_chunk c (hb k) f) (kk := kk) (Q := Q) f
  rwa [hl] at h

end Cert.KernelIdeal.Run

end
-- ==== Proof.KernelIdeal.Loops.lean ====
/-
The kernel's twenty merge loops are the pair and chunk passes of the five merges: one line for each, naming its offsets,
by the lemmas of the two shapes of trip.
-/
module

public import proofs.«01_k».proof.Proof.KernelIdeal.Trips
public import Idealize.ShloMosaic.Lib.Pipeline.Value

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring

variable {F : FTy → Type} [FloatOps F]

local notation "𝕄" => MT nD τ sig Unit (Elt F) ℕ UU ℕ

omit [FloatOps F] in
theorem cast_self {p x : Blk F} (h : p = shapeCast S1024x256 x shapeCasts_S1024x256_S1024x256) : p = x :=
  h.trans (shapeCast_self _ _)

/-- A pair trip from its operations, its two offsets and the scalar its two selections go by. -/
theorem IsPair.of {m s k : ℕ} {q : Prog (TpuEff nD τ sig (Elt F) Λ₀ .tc) Unit} {oA oB iA iB} {wA wB : Blk F → Blk F → Blk F} {uA uB : BitVec 1}
    (pA : PackedAt oA iA) (pB : PackedAt oB iB) (hq : q = pairProg oA oB iA iB pA pB wA wB)
    (hA : ∀ a b, wA a b = shapeCast S1024x256 (Scalar.select uA (minimumf a b) (maximumf a b)) shapeCasts_S1024x256_S1024x256)
    (hB : ∀ a b, wB a b = shapeCast S1024x256 (Scalar.select uB (maximumf a b) (minimumf a b)) shapeCasts_S1024x256_S1024x256)
    (h : oA = boff (bno (pairLow s k)) ∧ oB = boff (bno (pairLow s k + 2 ^ s)) ∧ uA = upBit m (pairLow s k) ∧ uB = upBit m (pairLow s k)) :
    IsPair m s k q := by
  obtain ⟨ha, hb, hu, hv⟩ := h
  exact ⟨oA, oB, iA, iB, pA, pB, wA, wB, hq, ha, hb, fun a b => by rw [cast_self (hA a b), hu], fun a b => by rw [cast_self (hB a b), hv]⟩

/-- A chunk trip from its operations, its offset and its direction. -/
theorem IsChunk.of {m k : ℕ} {q : Prog (TpuEff nD τ sig (Elt F) Λ₀ .tc) Unit} {o i} {w : Blk F → Blk F} {u : BitVec 1}
    (p : PackedAt o i) (hq : q = chunkProg o i p w)
    (hw : ∀ a, w a = shapeCast S1024x256 (chunkSort u a) shapeCasts_S1024x256_S1024x256)
    (h : o = boff (bno k) ∧ u = upBit m k) : IsChunk m k q := by
  obtain ⟨ho, hu⟩ := h
  exact ⟨o, i, p, w, hq, ho, fun a => by rw [cast_self (hw a), hu]⟩

set_option maxRecDepth 65536
attribute [local irreducible] select minimumf maximumf concatenate extractStridedSlice shapeCast broadcastTo iota xori andi cmpi broadcast constantI pairLoop chunkLoop

/-- The order of the passes, in two halves as the program has them. -/
theorem merge_front (f : GBuf F) : pairLoop 3 3 (iter mergeLevel f 3) = pairLoop 3 3 (chunkLoop 2 (pairLoop 2 0 (pairLoop 2 1 (pairLoop 2 2
    (chunkLoop 1 (pairLoop 1 0 (pairLoop 1 1 (chunkLoop 0 (pairLoop 0 0 f))))))))) := by
  simp only [iter, mergeLevel, pairLoops]
theorem merge_rest (f : GBuf F) : mergeLevel 4 (chunkLoop 3 (pairLoops 3 3 f)) = chunkLoop 4 (pairLoop 4 0 (pairLoop 4 1 (pairLoop 4 2
    (pairLoop 4 3 (pairLoop 4 4 (chunkLoop 3 (pairLoop 3 0 (pairLoop 3 1 (pairLoop 3 2 f))))))))) := by
  simp only [mergeLevel, pairLoops]

/-- The two together are the whole merge. -/
theorem merge_whole (f : GBuf F) : mergeLevel 4 (chunkLoop 3 (pairLoops 3 3 (pairLoop 3 3 (iter mergeLevel f 3)))) = mergeAll f := by
  simp only [mergeAll, iter, mergeLevel, pairLoops]

/-- The merges into runs of 2, 4 and 8 blocks, and the first pass of the next. -/
theorem wp_merge_front (c : Dev nD) (f : GBuf F) :
    gP c f ⊢ wp frame (wpE (defs₀ (F := F)) 𝒱₀ (c : Thread nD τ) none) Set.univ
      (k0_part85 xM (Memref.isWhole_whole _) oM (Memref.isWhole_whole _) gM (Memref.isWhole_whole _) cc0_scratch1 cc0_scratch2 0#32)
      fun r => iprop(⌜r = 0#32⌝ ∗ gP c (pairLoop 3 3 (iter mergeLevel f 3))) := by
  rw [k0_part85_eq_skeleton]; unfold k0_part85_skel
  rw [merge_front]
  iintro H
  iapply wp_pairs c 0 0 k0_t1_loop k0_t1_ok _ (by decide) (fun k => .of (k0_off3_packedbf16 k) (k0_off4_packedbf16 k) rfl (fun _ _ => rfl)
    (fun _ _ => rfl) (by revert k; decide +kernel)) $$ H; iintro H
  iapply wp_chunks c 0 k0_t2_loop k0_t2_ok _ (by decide) (fun k => .of (k0_off5_packedbf16 k) rfl (fun _ => rfl)
    (by revert k; decide +kernel)) $$ H; iintro H
  iapply wp_pairs c 1 1 k0_t3_loop k0_t3_ok _ (by decide) (fun k => .of (k0_off6_packedbf16 k) (k0_off7_packedbf16 k) rfl (fun _ _ => rfl)
    (fun _ _ => rfl) (by revert k; decide +kernel)) $$ H; iintro H
  iapply wp_pairs c 1 0 k0_t4_loop k0_t4_ok _ (by decide) (fun k => .of (k0_off8_packedbf16 k) (k0_off9_packedbf16 k) rfl (fun _ _ => rfl)
    (fun _ _ => rfl) (by revert k; decide +kernel)) $$ H; iintro H
  iapply wp_chunks c 1 k0_t5_loop k0_t5_ok _ (by decide) (fun k => .of (k0_off10_packedbf16 k) rfl (fun _ => rfl)
    (by revert k; decide +kernel)) $$ H; iintro H
  iapply wp_pairs c 2 2 k0_t6_loop k0_t6_ok _ (by decide) (fun k => .of (k0_off11_packedbf16 k) (k0_off12_packedbf16 k) rfl (fun _ _ => rfl)
    (fun _ _ => rfl) (by revert k; decide +kernel)) $$ H; iintro H
  iapply wp_pairs c 2 1 k0_t7_loop k0_t7_ok _ (by decide) (fun k => .of (k0_off13_packedbf16 k) (k0_off14_packedbf16 k) rfl (fun _ _ => rfl)
    (fun _ _ => rfl) (by revert k; decide +kernel)) $$ H; iintro H
  iapply wp_pairs c 2 0 k0_t8_loop k0_t8_ok _ (by decide) (fun k => .of (k0_off15_packedbf16 k) (k0_off16_packedbf16 k) rfl (fun _ _ => rfl)
    (fun _ _ => rfl) (by revert k; decide +kernel)) $$ H; iintro H
  iapply wp_chunks c 2 k0_t9_loop k0_t9_ok _ (by decide) (fun k => .of (k0_off17_packedbf16 k) rfl (fun _ => rfl)
    (by revert k; decide +kernel)) $$ H; iintro H
  iapply wp_pairs c 3 3 k0_t10_loop k0_t10_ok _ (by decide) (fun k => .of (k0_off18_packedbf16 k) (k0_off19_packedbf16 k) rfl (fun _ _ => rfl)
    (fun _ _ => rfl) (by revert k; decide +kernel)) $$ H; iintro H
  rw [Prog.pure_eq_ret, wp_ret]
  imodintro
  isplitr
  · ipureintro; rfl
  · iexact H

/-- The rest of the merge into runs of 16 blocks, and the last merge. -/
theorem wp_merge_rest (c : Dev nD) (f : GBuf F) (v2 : BitVec 32) :
    gP c f ⊢ wp frame (wpE (defs₀ (F := F)) 𝒱₀ (c : Thread nD τ) none) Set.univ
      (k0_part86 xM (Memref.isWhole_whole _) oM (Memref.isWhole_whole _) gM (Memref.isWhole_whole _) cc0_scratch1 cc0_scratch2 v2 0#32)
      fun r => gP c (mergeLevel 4 (chunkLoop 3 (pairLoops 3 3 f))) := by
  rw [k0_part86_eq_skeleton]; unfold k0_part86_skel
  rw [merge_rest]
  iintro H
  iapply wp_pairs c 3 2 k0_t11_loop k0_t11_ok _ (by decide) (fun k => .of (k0_off20_packedbf16 k) (k0_off21_packedbf16 k) rfl (fun _ _ => rfl)
    (fun _ _ => rfl) (by revert k; decide +kernel)) $$ H; iintro H
  iapply wp_pairs c 3 1 k0_t12_loop k0_t12_ok _ (by decide) (fun k => .of (k0_off22_packedbf16 k) (k0_off23_packedbf16 k) rfl (fun _ _ => rfl)
    (fun _ _ => rfl) (by revert k; decide +kernel)) $$ H; iintro H
  iapply wp_pairs c 3 0 k0_t13_loop k0_t13_ok _ (by decide) (fun k => .of (k0_off24_packedbf16 k) (k0_off25_packedbf16 k) rfl (fun _ _ => rfl)
    (fun _ _ => rfl) (by revert k; decide +kernel)) $$ H; iintro H
  iapply wp_chunks c 3 k0_t14_loop k0_t14_ok _ (by decide) (fun k => .of (k0_off26_packedbf16 k) rfl (fun _ => rfl)
    (by revert k; decide +kernel)) $$ H; iintro H
  iapply wp_pairs c 4 4 k0_t15_loop k0_t15_ok _ (by decide) (fun k => .of (k0_off27_packedbf16 k) (k0_off28_packedbf16 k) rfl (fun _ _ => rfl)
    (fun _ _ => rfl) (by revert k; decide +kernel)) $$ H; iintro H
  iapply wp_pairs c 4 3 k0_t16_loop k0_t16_ok _ (by decide) (fun k => .of (k0_off29_packedbf16 k) (k0_off30_packedbf16 k) rfl (fun _ _ => rfl)
    (fun _ _ => rfl) (by revert k; decide +kernel)) $$ H; iintro H
  iapply wp_pairs c 4 2 k0_t17_loop k0_t17_ok _ (by decide) (fun k => .of (k0_off31_packedbf16 k) (k0_off32_packedbf16 k) rfl (fun _ _ => rfl)
    (fun _ _ => rfl) (by revert k; decide +kernel)) $$ H; iintro H
  iapply wp_pairs c 4 1 k0_t18_loop k0_t18_ok _ (by decide) (fun k => .of (k0_off33_packedbf16 k) (k0_off34_packedbf16 k) rfl (fun _ _ => rfl)
    (fun _ _ => rfl) (by revert k; decide +kernel)) $$ H; iintro H
  iapply wp_pairs c 4 0 k0_t19_loop k0_t19_ok _ (by decide) (fun k => .of (k0_off35_packedbf16 k) (k0_off36_packedbf16 k) rfl (fun _ _ => rfl)
    (fun _ _ => rfl) (by revert k; decide +kernel)) $$ H; iintro H
  iapply wp_chunks c 4 k0_t20_loop k0_t20_ok _ (by decide) (fun k => .of (k0_off37_packedbf16 k) rfl (fun _ => rfl)
    (by revert k; decide +kernel)) $$ H; iintro H
  rw [Prog.pure_eq_ret, wp_ret]
  imodintro
  iexact H

end Cert.KernelIdeal.Run

end
-- ==== Proof.KernelIdeal.Sort.lean ====
/-
The kernel's 23 parts between the load of a block and its store compute the block's sort: 55 compare-exchanges, whose
vector operations are, term by term, those of `blockSort`.
-/
module

public import proofs.«01_k».proof.Proof.KernelIdeal.Stage
public import Idealize.ShloMosaic.Lib.Pipeline.Value

@[expose] public section

noncomputable section

namespace Cert.KernelIdeal.Run

open Cert.KernelIdeal Cert.KernelIdeal.Gen
open Idealize.ShloMosaic Idealize.ShloMosaic.TcCoe Idealize.SL.Sem Idealize.SL
variable {F : FTy → Type} [FloatOps F]

/-- The parts of the kernel from the sort's first to its last, before a continuation `k`. -/
noncomputable def sortProg (arg0 : Memref sig .tc .vmem S1024x256 .bf16) (harg0 : arg0.IsWhole) (arg1 : Memref sig .tc .vmem S1024x256 .bf16) (harg1 : arg1.IsWhole) (arg2 : Memref sig .tc .vmem S32768x256 .bf16) (harg2 : arg2.IsWhole) (arg3 : DmaSems sig S31) (arg4 : DmaSems sig S31)
    (v14 : BitVec 1) (v16 : Blk F) (v17 : IVec S1024x1 32) (v23 v28 : IVec S1024x1 1) (v31 : Blk F) (v32 : FVec F S1x256 .bf16)
    {β : Type} (k : Blk F → Blk F → IVec S1024x256 1 → Prog (TpuEff nD τ sig (Elt F) Λ₀ .tc) β) : Prog (TpuEff nD τ sig (Elt F) Λ₀ .tc) β := do
  let ⟨v50, v71, v76, v79, v82, v84⟩ : Σ' (v50 : IVec S1024x1 1) (v71 : FVec F S1024x256 .bf16) (v76 : IVec S1024x1 1) (v79 : FVec F S1024x256 .bf16) (v82 : FVec F S1024x256 .bf16), IVec S1024x256 1 ← k0_part37 arg0 harg0 arg1 harg1 arg2 harg2 arg3 arg4 v14 v16 v17 v23 v28 v31 v32
  let ⟨v98, v134, v135, v136⟩ : Σ' (v98 : IVec S1024x1 1) (v134 : FVec F S1024x256 .bf16) (v135 : FVec F S1024x256 .bf16), IVec S1024x1 1 ← k0_part38 arg0 harg0 arg1 harg1 arg2 harg2 arg3 arg4 v14 v17 v50 v71 v76 v79 v82 v84
  let ⟨v167, v182, v183, v187⟩ : Σ' (v167 : IVec S1024x1 1) (v182 : FVec F S1024x256 .bf16) (v183 : FVec F S1024x256 .bf16), IVec S1024x256 1 ← k0_part39 arg0 harg0 arg1 harg1 arg2 harg2 arg3 arg4 v14 v17 v98 v134 v135 v136
  let ⟨v230, v235, v238, v239⟩ : Σ' (v230 : FVec F S1024x256 .bf16) (v235 : IVec S1024x1 1) (v238 : FVec F S1024x256 .bf16), FVec F S1x256 .bf16 ← k0_part40 arg0 harg0 arg1 harg1 arg2 harg2 arg3 arg4 v167 v182 v183 v187
  let ⟨v257, v278, v283, v286, v289, v291⟩ : Σ' (v257 : IVec S1024x1 1) (v278 : FVec F S1024x256 .bf16) (v283 : IVec S1024x1 1) (v286 : FVec F S1024x256 .bf16) (v289 : FVec F S1024x256 .bf16), IVec S1024x256 1 ← k0_part41 arg0 harg0 arg1 harg1 arg2 harg2 arg3 arg4 v14 v17 v167 v230 v235 v238 v239
  let ⟨v341, v342, v343⟩ : Σ' (v341 : FVec F S1024x256 .bf16) (v342 : IVec S1024x1 32), IVec S1024x1 32 ← k0_part42 arg0 harg0 arg1 harg1 arg2 harg2 arg3 arg4 v257 v278 v283 v286 v289 v291
  let ⟨v368, v389, v394⟩ : Σ' (v368 : IVec S1024x1 1) (v389 : FVec F S1024x256 .bf16), IVec S1024x1 1 ← k0_part43 arg0 harg0 arg1 harg1 arg2 harg2 arg3 arg4 v14 v17 v257 v341 v342 v343
  let ⟨v446, v447, v448⟩ : Σ' (v446 : FVec F S1024x256 .bf16) (v447 : FVec F S1024x256 .bf16), IVec S1024x1 1 ← k0_part44 arg0 harg0 arg1 harg1 arg2 harg2 arg3 arg4 v368 v389 v394
  let ⟨v494, v498, v499⟩ : Σ' (v494 : FVec F S1024x256 .bf16) (v498 : IVec S1024x1 1), IVec S1024x1 1 ← k0_part45 arg0 harg0 arg1 harg1 arg2 harg2 arg3 arg4 v14 v17 v368 v446 v447 v448
  let ⟨v500, v542, v547, v550, v551⟩ : Σ' (v500 : IVec S1024x1 1) (v542 : FVec F S1024x256 .bf16) (v547 : IVec S1024x1 1) (v550 : FVec F S1024x256 .bf16), FVec F S16x256 .bf16 ← k0_part46 arg0 harg0 arg1 harg1 arg2 harg2 arg3 arg4 v494 v498 v499
  let ⟨v599, v600, v604⟩ : Σ' (v599 : FVec F S1024x256 .bf16) (v600 : FVec F S1024x256 .bf16), IVec S1024x256 1 ← k0_part47 arg0 harg0 arg1 harg1 arg2 harg2 arg3 arg4 v500 v542 v547 v550 v551
  let ⟨v647, v653, v654, v655⟩ : Σ' (v647 : FVec F S1024x256 .bf16) (v653 : IVec S1024x1 1) (v654 : IVec S1024x1 32), IVec S1024x1 32 ← k0_part48 arg0 harg0 arg1 harg1 arg2 harg2 arg3 arg4 v14 v17 v500 v599 v600 v604
  let ⟨v695, v700, v703, v706, v708⟩ : Σ' (v695 : FVec F S1024x256 .bf16) (v700 : IVec S1024x1 1) (v703 : FVec F S1024x256 .bf16) (v706 : FVec F S1024x256 .bf16), IVec S1024x256 1 ← k0_part49 arg0 harg0 arg1 harg1 arg2 harg2 arg3 arg4 v647 v653 v654 v655
  let ⟨v758, v759, v760⟩ : Σ' (v758 : FVec F S1024x256 .bf16) (v759 : IVec S1024x1 32), IVec S1024x1 32 ← k0_part50 arg0 harg0 arg1 harg1 arg2 harg2 arg3 arg4 v653 v695 v700 v703 v706 v708
  let ⟨v800, v805, v808, v811, v813⟩ : Σ' (v800 : FVec F S1024x256 .bf16) (v805 : IVec S1024x1 1) (v808 : FVec F S1024x256 .bf16) (v811 : FVec F S1024x256 .bf16), IVec S1024x256 1 ← k0_part51 arg0 harg0 arg1 harg1 arg2 harg2 arg3 arg4 v653 v758 v759 v760
  let ⟨v827, v863, v864, v865⟩ : Σ' (v827 : IVec S1024x1 1) (v863 : FVec F S1024x256 .bf16) (v864 : FVec F S1024x256 .bf16), IVec S1024x1 1 ← k0_part52 arg0 harg0 arg1 harg1 arg2 harg2 arg3 arg4 v14 v17 v653 v800 v805 v808 v811 v813
  let ⟨v911, v916⟩ : Σ' (v911 : FVec F S1024x256 .bf16), IVec S1024x1 1 ← k0_part53 arg0 harg0 arg1 harg1 arg2 harg2 arg3 arg4 v827 v863 v864 v865
  let ⟨v968, v969, v970⟩ : Σ' (v968 : FVec F S1024x256 .bf16) (v969 : FVec F S1024x256 .bf16), IVec S1024x1 1 ← k0_part54 arg0 harg0 arg1 harg1 arg2 harg2 arg3 arg4 v827 v911 v916
  let ⟨v1016, v1020, v1021⟩ : Σ' (v1016 : FVec F S1024x256 .bf16) (v1020 : IVec S1024x1 1), IVec S1024x1 1 ← k0_part55 arg0 harg0 arg1 harg1 arg2 harg2 arg3 arg4 v14 v17 v827 v968 v969 v970
  let ⟨v1022, v1064, v1069, v1072, v1073⟩ : Σ' (v1022 : IVec S1024x1 1) (v1064 : FVec F S1024x256 .bf16) (v1069 : IVec S1024x1 1) (v1072 : FVec F S1024x256 .bf16), FVec F S128x256 .bf16 ← k0_part56 arg0 harg0 arg1 harg1 arg2 harg2 arg3 arg4 v1016 v1020 v1021
  let ⟨v1121, v1122, v1126⟩ : Σ' (v1121 : FVec F S1024x256 .bf16) (v1122 : FVec F S1024x256 .bf16), IVec S1024x256 1 ← k0_part57 arg0 harg0 arg1 harg1 arg2 harg2 arg3 arg4 v1022 v1064 v1069 v1072 v1073
  let ⟨v1169, v1174, v1177, v1178⟩ : Σ' (v1169 : FVec F S1024x256 .bf16) (v1174 : IVec S1024x1 1) (v1177 : FVec F S1024x256 .bf16), FVec F S4x256 .bf16 ← k0_part58 arg0 harg0 arg1 harg1 arg2 harg2 arg3 arg4 v1022 v1121 v1122 v1126
  let ⟨v1226, v1227, v1231⟩ : Σ' (v1226 : FVec F S1024x256 .bf16) (v1227 : FVec F S1024x256 .bf16), IVec S1024x256 1 ← k0_part59 arg0 harg0 arg1 harg1 arg2 harg2 arg3 arg4 v1022 v1169 v1174 v1177 v1178
  k v1226 v1227 v1231

/-- The parts after the sort: the block's store, the ring, the merge, the result's store. -/
noncomputable def restProg (arg0 : Memref sig .tc .vmem S1024x256 .bf16) (harg0 : arg0.IsWhole) (arg1 : Memref sig .tc .vmem S1024x256 .bf16) (harg1 : arg1.IsWhole) (arg2 : Memref sig .tc .vmem S32768x256 .bf16) (harg2 : arg2.IsWhole) (arg3 : DmaSems sig S31) (arg4 : DmaSems sig S31)
    (d0 : Dev nD) (v2 v7 : BitVec 32) (v1226 v1227 : Blk F) (v1231 : IVec S1024x256 1) : Prog (TpuEff nD τ sig (Elt F) Λ₀ .tc) PUnit := do
  let ⟨v1261, c1_i32_214⟩ : Σ' (v1261 : BitVec 32), BitVec 32 ← k0_part60 arg0 harg0 arg1 harg1 arg2 harg2 arg3 arg4 d0 v2 v7 v1226 v1227 v1231
  let ⟨v1289, c0_i32_243⟩ : Σ' (v1289 : BitVec 32), BitVec 32 ← k0_part61 arg0 harg0 arg1 harg1 arg2 harg2 arg3 arg4 d0 v2 v7 v1261 c1_i32_214
  k0_part62 arg0 harg0 arg1 harg1 arg2 harg2 arg3 arg4 d0 v2 v7 v1289 c0_i32_243
  let v1347 : BitVec 32 ← k0_part63 arg0 harg0 arg1 harg1 arg2 harg2 arg3 arg4 d0 v2 v7
  let ⟨v1376, c6_i32⟩ : Σ' (v1376 : BitVec 32), BitVec 32 ← k0_part64 arg0 harg0 arg1 harg1 arg2 harg2 arg3 arg4 d0 v2 v7 v1347
  let ⟨v1404, c0_i32_349⟩ : Σ' (v1404 : BitVec 32), BitVec 32 ← k0_part65 arg0 harg0 arg1 harg1 arg2 harg2 arg3 arg4 d0 v2 v7 v1376 c6_i32
  k0_part66 arg0 harg0 arg1 harg1 arg2 harg2 arg3 arg4 d0 v2 v7 v1404 c0_i32_349
  let v1462 : BitVec 32 ← k0_part67 arg0 harg0 arg1 harg1 arg2 harg2 arg3 arg4 d0 v2 v7
  let ⟨v1491, c11_i32⟩ : Σ' (v1491 : BitVec 32), BitVec 32 ← k0_part68 arg0 harg0 arg1 harg1 arg2 harg2 arg3 arg4 d0 v2 v7 v1462
  let ⟨v1519, c0_i32_455⟩ : Σ' (v1519 : BitVec 32), BitVec 32 ← k0_part69 arg0 harg0 arg1 harg1 arg2 harg2 arg3 arg4 d0 v2 v7 v1491 c11_i32
  k0_part70 arg0 harg0 arg1 harg1 arg2 harg2 arg3 arg4 d0 v2 v7 v1519 c0_i32_455
  let v1577 : BitVec 32 ← k0_part71 arg0 harg0 arg1 harg1 arg2 harg2 arg3 arg4 d0 v2 v7
  let ⟨v1606, c16_i32_533⟩ : Σ' (v1606 : BitVec 32), BitVec 32 ← k0_part72 arg0 harg0 arg1 harg1 arg2 harg2 arg3 arg4 d0 v2 v7 v1577
  let ⟨v1634, c0_i32_561⟩ : Σ' (v1634 : BitVec 32), BitVec 32 ← k0_part73 arg0 harg0 arg1 harg1 arg2 harg2 arg3 arg4 d0 v2 v7 v1606 c16_i32_533
  k0_part74 arg0 harg0 arg1 harg1 arg2 harg2 arg3 arg4 d0 v2 v7 v1634 c0_i32_561
  let v1692 : BitVec 32 ← k0_part75 arg0 harg0 arg1 harg1 arg2 harg2 arg3 arg4 d0 v2 v7
  let ⟨v1721, c21_i32⟩ : Σ' (v1721 : BitVec 32), BitVec 32 ← k0_part76 arg0 harg0 arg1 harg1 arg2 harg2 arg3 arg4 d0 v2 v7 v1692
  let ⟨v1749, c0_i32_666⟩ : Σ' (v1749 : BitVec 32), BitVec 32 ← k0_part77 arg0 harg0 arg1 harg1 arg2 harg2 arg3 arg4 d0 v2 v7 v1721 c21_i32
  k0_part78 arg0 harg0 arg1 harg1 arg2 harg2 arg3 arg4 d0 v2 v7 v1749 c0_i32_666
  let v1807 : BitVec 32 ← k0_part79 arg0 harg0 arg1 harg1 arg2 harg2 arg3 arg4 d0 v2 v7
  let ⟨v1836, c26_i32⟩ : Σ' (v1836 : BitVec 32), BitVec 32 ← k0_part80 arg0 harg0 arg1 harg1 arg2 harg2 arg3 arg4 d0 v2 v7 v1807
  let ⟨v1864, c0_i32_771⟩ : Σ' (v1864 : BitVec 32), BitVec 32 ← k0_part81 arg0 harg0 arg1 harg1 arg2 harg2 arg3 arg4 d0 v2 v7 v1836 c26_i32
  k0_part82 arg0 harg0 arg1 harg1 arg2 harg2 arg3 arg4 d0 v2 v7 v1864 c0_i32_771
  let v1922 : BitVec 32 ← k0_part83 arg0 harg0 arg1 harg1 arg2 harg2 arg3 arg4 d0 v2 v7
  let c0_i32_848 : BitVec 32 ← k0_part84 arg0 harg0 arg1 harg1 arg2 harg2 arg3 arg4 d0 v2 v7 v1922
  let c0_i32_888 : BitVec 32 ← k0_part85 arg0 harg0 arg1 harg1 arg2 harg2 arg3 arg4 c0_i32_848
  k0_part86 arg0 harg0 arg1 harg1 arg2 harg2 arg3 arg4 v2 c0_i32_888
  let v1973 : Vec F S1024x256 .bf16 ← Prog.lift (.load arg2 (Rect.unit (s := S32768x256) (k0_off1 d0) S1024x256.size (k0_off1_inb d0)).toLoadRect (View.loadsAt_vmem h_S1024x256))
  let v1974 : Vec F S1024x256 .bf16 ← Prog.lift (.load arg1 (Rect.unit (s := S1024x256) ![0, 0] S1024x256.size inb_S1024x256_S1024x256_0_0).toLoadRect (View.loadsAt_vmem h_S1024x256))
  Prog.lift (.store arg1 (Rect.unit (s := S1024x256) ![0, 0] S1024x256.size inb_S1024x256_S1024x256_0_0) v1973 Finset.univ (View.stores_vmem h_S1024x256 (harg1.storeExact_slice rfl _ packedbf16_S1024x256_S1024x256_0_0) (fun _ => rfl)) (.inl rfl))
  pure ⟨⟩

/-- The kernel is its first part, the sort, the rest. -/
theorem body_split (arg0 : Memref sig .tc .vmem S1024x256 .bf16) (harg0 : arg0.IsWhole) (arg1 : Memref sig .tc .vmem S1024x256 .bf16) (harg1 : arg1.IsWhole) (arg2 : Memref sig .tc .vmem S32768x256 .bf16) (harg2 : arg2.IsWhole) (arg3 : DmaSems sig S31) (arg4 : DmaSems sig S31) :
    (cc0__body_skel arg0 harg0 arg1 harg1 arg2 harg2 arg3 arg4 : Prog (TpuEff nD τ sig (Elt F) Λ₀ .tc) PUnit)
      = (k0_part36 arg0 harg0 arg1 harg1 arg2 harg2 arg3 arg4 >>= fun r => sortProg arg0 harg0 arg1 harg1 arg2 harg2 arg3 arg4 r.2.2.2.1 r.2.2.2.2.1 r.2.2.2.2.2.1 r.2.2.2.2.2.2.1 r.2.2.2.2.2.2.2.1 r.2.2.2.2.2.2.2.2.1 r.2.2.2.2.2.2.2.2.2
          (restProg arg0 harg0 arg1 harg1 arg2 harg2 arg3 arg4 r.1 r.2.1 r.2.2.1)) := rfl

set_option maxRecDepth 65536
attribute [local irreducible] select minimumf maximumf concatenate extractStridedSlice shapeCast broadcastTo iota xori andi cmpi broadcast constantI

/-- The parts that sort a block, before any continuation `k`: they run to what the following store sorts out of three
    vectors, and the stored vector is the sorted block. -/
theorem sort_parts (arg0 : Memref sig .tc .vmem S1024x256 .bf16) (harg0 : arg0.IsWhole) (arg1 : Memref sig .tc .vmem S1024x256 .bf16) (harg1 : arg1.IsWhole) (arg2 : Memref sig .tc .vmem S32768x256 .bf16) (harg2 : arg2.IsWhole) (arg3 : DmaSems sig S31) (arg4 : DmaSems sig S31)
    (v14 : BitVec 1) (v16 : Blk F) {β : Type} (k : Blk F → Blk F → IVec S1024x256 1 → Prog (TpuEff nD τ sig (Elt F) Λ₀ .tc) β) :
    ∃ a b m, sortProg arg0 harg0 arg1 harg1 arg2 harg2 arg3 arg4 v14 v16 rowsV (ascV 2 v14) (bitV 1) (upV 1 (by decide) v16) (rowsAt 1023 1 (by decide) v16) k = k a b m
      ∧ k0_pay250 a b m = shapeCast S1024x256 (blockSort v14 v16) shapeCasts_S1024x256_S1024x256 := by
  refine ⟨_, _, _, rfl, ?_⟩
  rfl

/-! What the first part passes on, in the block's terms. -/

theorem pay136_eq (x : Blk F) : k0_pay136 x = x := shapeCast_self x _
theorem pay137_eq (d0 : Dev nD) :
    k0_pay137 d0 = ascV 2 (Scalar.cmpi .eq (Scalar.andi (Scalar.remsi (Scalar.divsi (Dev.word d0) 1#32) 32#32) 1#32) 1#32) := rfl
theorem pay138_eq : k0_pay138 = bitV 1 := rfl
theorem pay139_eq (x : Blk F) : k0_pay139 x = upV 1 (by decide) x := by
  rw [show k0_pay139 x = upV 1 (by decide) (k0_pay136 x) from rfl, pay136_eq]
theorem pay140_eq (x : Blk F) : k0_pay140 x = rowsAt 1023 1 (by decide) x := by
  rw [show k0_pay140 x = rowsAt 1023 1 (by decide) (k0_pay136 x) from rfl, pay136_eq]
theorem rows_eq : iota .tc S1024x1 32 [0] iota_S1024x1_d0_w32 = rowsV := rfl

end Cert.KernelIdeal.Run

end
-- ==== Proof.KernelIdeal.Rest.lean ====
/-
The kernel's parts after the sort on one device, run: the store of its block, the ring's hops, the merge, the store of
its block of the result. Here too is the proof data of the kernel's pipeline: what each buffer holds, before and after.
-/
module

public import proofs.«01_k».proof.Proof.KernelIdeal.Hop
public import proofs.«01_k».proof.Proof.KernelIdeal.Loops
public import proofs.«01_k».proof.Proof.KernelIdeal.Sort
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring
open Idealize.ShloMosaic.Pipeline (Dat Cfg Window BodyObligation cellOf)

variable {F : FTy → Type} [FloatOps F]

local notation "𝕄" => MT nD τ sig Unit (Elt F) ℕ UU ℕ

/-- Whether a device's sort is turned round, as the kernel computes it. -/
abbrev flipOf (c : Dev nD) : BitVec 1 :=
  Scalar.cmpi .eq (Scalar.andi (Scalar.remsi (Scalar.divsi (Dev.word c) 1#32) 32#32) 1#32) 1#32

variable (m : (ℓ : Loc nD τ sig) → Buf (Elt F) ℓ) (ρ : Dev nD → PrngReg)

/-! ## The contents -/

/-- The state a run starts from. -/
def s₀ : MemSt nD τ sig (Elt F) := ⟨m, fun _ => 0, ρ⟩

/-- Device `c`'s block of `x` as its staging buffer holds it. -/
def xstg (c : Dev nD) : (cc0_stg0_0 : Ref sig .tc).ty.Contents (Elt F) :=
  (win0_0.blk (0 : Fin 1)).view.read (Elt F) ((s₀ m ρ).mem ((c : Thread nD τ).loc main_arg0))

/-- Every device's sorted block, -/
def sorted (b : Fin 32) : Blk F := blockSort (flipOf b) (xstg m ρ b)
/-- the gathered buffer once the ring is through, -/
def gathered : GBuf F := gath (sorted m ρ)
/-- and device `c`'s block of the result. -/
def outAt (c : Dev nD) : (cc0_stg1_0 : Ref sig .tc).ty.Contents (Elt F) := rd c (mergeAll (gathered m ρ))

/-! ## The pipeline's proof data -/

theorem cfg0_N : cfg0.N = 1 := by decide
/-- The one grid point. -/
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What a device starts hop `j` with: its positions in the hop's two cells, and the two duties it pays. -/
def hopStart (c : Dev nD) (j : Fin 31) : sProp 𝕄 :=
  iprop(atPos ER (sendCell c j) 0 ∅ 0 ∗ atPos ER (recvCell c j) 0 ∅ 0
    ∗ dutyTok ER (sendCell c j) 0 false ∗ dutyTok ER (recvCell (nxt c) j) 0 false)

/-- The ring's ghost state that device `c` starts from. -/
def ghost (K : Dev nD × CI → ℕ) (c : Dev nD) : sProp 𝕄 :=
  iprop(records (gathered m ρ) K ∗ atPos ER (barCell c) 0 ∅ 0
    ∗ dutyTok ER (barCell (nxt c)) 0 false ∗ dutyTok ER (barCell (prv c)) 0 true
    ∗ bigSep Finset.univ fun j : Fin 31 => hopStart (F := F) c j)

/-- What a device's body starts from: that, its credits and the levels. -/
def start (c : Dev nD) : sProp 𝕄 :=
  iprop((∃ K, ghost m ρ K c) ∗ cred (tallyAt (barCell c) () 2)
    ∗ (bigSep Finset.univ fun j : Fin 31 => cred (tallyAt (recvCell c j) () N)) ∗ levAts L lv)

def Φ₀ (c : Dev nD) : sProp 𝕄 := iprop(start m ρ c ∗ ∃ f, gP c f)
/-- After the body: the merged buffer and every cell closed at zero. -/
def Φ₁ (c : Dev nD) : sProp 𝕄 :=
  iprop(gP c (mergeAll (gathered m ρ)) ∗ (bigSep Finset.univ fun k : Fin 31 ⊕ Fin 31 => semVal ((c : Thread nD τ), osem k) 0)
    ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
/-- Holding a whole buffer at known contents. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The blocks between the phases -/

omit [FloatOps F] in
theorem bigSep_first {n : ℕ} (Φ : Fin (n + 1) → sProp 𝕄) :
    bigSep Finset.univ Φ = iprop(Φ 0 ∗ bigSep Finset.univ fun k : Fin n => Φ k.succ) := by
  rw [Fin.univ_succ, Finset.cons_eq_insert, BI.bigSep_insert (by simp), BI.bigSep_map]; rfl

omit [FloatOps F] in
/-- A device's whole buffer is its own block and the blocks it hands to the device before it. -/
theorem split_blocks (c : Dev nD) (f : GBuf F) :
    (gP c f : sProp 𝕄) ⊢ iprop(blk c (back c 0) f ∗ barPay (F := F) (prv c)) := by
  unfold gP
  rw [whole_blocks c c f, bigSep_first]
  refine sep_mono_right (bigSep_mono fun j _ => ?_)
  rw [nxt_prv]
  have e : back c (j.succ).val = back (prv c) j.val := by
    have h := back_nxt (prv c) j.val (by omega)
    rw [nxt_prv] at h
    exact h
  rw [← e]
  show (blk c (back c (j.succ).val) f : sProp 𝕄) ⊢ iprop(∃ f, blk c (back c (j.succ).val) f)
  iintro H
  iexists f
  iexact H

omit [FloatOps F] in
/-- A family of a device's cells past their one round is closed, each counter at zero. -/
theorem close_cells (g : GBuf F) (K : Dev nD × CI → ℕ) (c : Dev nD) {α : Type} [Fintype α] [DecidableEq α] (f : α → CI) :
    iprop(records g K ∗ bigSep Finset.univ fun j => atPos ER (kcell (c, f j)) 1 ∅ 0)
      ⊢ (|={Set.univ}=> bigSep Finset.univ fun j => semVal (kcell (c, f j)) 0 : sProp 𝕄) := by
  refine BI.Entails.trans ?_ (Rounds.cells_close ER (ringRd g) Finset.univ (fun j => kcell (c, f j)) (fun j => K (c, f j))
    (fun _ _ => Set.mem_univ _) (fun _ _ h => h) (fun _ => 1) (fun j _ => duties_later g _))
  refine (sep_mono_left (BI.bigSep_of_persistent (Finset.univ : Finset α) (records g K))).trans ?_
  rw [← bigSep_sep']
  exact bigSep_mono fun j _ => sep_mono_left (records_inv g K (c, f j))

/-! ## The body -/

section Body

variable (K : Dev nD × CI → ℕ)

abbrev r0 : Rect S1024x256 := Rect.unit (s := S1024x256) ![0, 0] S1024x256.size inb_S1024x256_S1024x256_0_0

omit [FloatOps F] in
theorem hz : (![0, 0] : Fin 2 → Nat) = fun _ => 0 := funext fun a => by fin_cases a <;> rfl
omit [FloatOps F] in
theorem read_x (f : (cc0_stg0_0 : Ref sig .tc).ty.Contents (Elt F)) : (xM : Memref sig .tc .vmem S1024x256 .bf16).view.readAt (Elt F) r0.toLoadRect f = f :=
  Memref.readAt_unit_zero (Elt F) cc0_stg0_0 hz _ f
omit [FloatOps F] in
theorem write_out (f w : (cc0_stg1_0 : Ref sig .tc).ty.Contents (Elt F)) :
    ((oM : Memref sig .tc .vmem S1024x256 .bf16).access r0 : View sig .tc _ _ _).write (Elt F) f w Finset.univ = w :=
  Memref.write_access_unit_zero_univ (Elt F) cc0_stg1_0 hz _ f w

theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)

/-- A load of the block at row offset `off`, the buffer held whole, -/
theorem wp_ld_at (c : Dev nD) (b : Fin 32) {off} (hoff : off = boff b) {i} {β : Type} {k : Blk F → Prog (TpuEff nD τ sig (Elt F) Λ₀ .tc) β} {Q : β → sProp 𝕄} (f : GBuf F) :
    gP c f ⊢ iprop((gP c f -∗ wp frame (wpE (defs₀ (F := F)) 𝒱₀ (c : Thread nD τ) none) Set.univ (k (rd b f)) Q)
      -∗ wp frame (wpE (defs₀ (F := F)) 𝒱₀ (c : Thread nD τ) none) Set.univ (.op (ldE off i) k) Q) := by
  subst hoff; exact wp_ld c b f

/-- the block alone held, -/
theorem wp_ld_own (c : Dev nD) (b : Fin 32) {off} (hoff : off = boff b) {i} {β : Type} {k : Blk F → Prog (TpuEff nD τ sig (Elt F) Λ₀ .tc) β} {Q : β → sProp 𝕄} (f : GBuf F) :
    blk c b f ⊢ iprop((blk c b f -∗ wp frame (wpE (defs₀ (F := F)) 𝒱₀ (c : Thread nD τ) none) Set.univ (k (rd b f)) Q)
      -∗ wp frame (wpE (defs₀ (F := F)) 𝒱₀ (c : Thread nD τ) none) Set.univ (.op (ldE off i) k) Q) := by
  subst hoff
  have h := wp_load_rect (Γ := .empty) (defs := defs₀ (F := F)) 𝒱₀ (c : Thread nD τ) none Set.univ (m := gM) (r := brect b) (hl := View.loadsAt_vmem h_S1024x256) (k := k) (Q := Q) (q := fullShare) (f := f) (S := bset b)
    (acc_set b).subset
  exact h

/-- and a store to it. -/
theorem wp_st_own (c : Dev nD) (b : Fin 32) {off} (hoff : off = boff b) {i p} {w : Blk F} {β : Type} {k : PUnit → Prog (TpuEff nD τ sig (Elt F) Λ₀ .tc) β} {Q : β → sProp 𝕄} (f : GBuf F) :
    blk c b f ⊢ iprop((blk c b (upd b w f) -∗ wp frame (wpE (defs₀ (F := F)) 𝒱₀ (c : Thread nD τ) none) Set.univ (k ⟨⟩) Q)
      -∗ wp frame (wpE (defs₀ (F := F)) 𝒱₀ (c : Thread nD τ) none) Set.univ (.op (stE off i p w) k) Q) := by
  subst hoff
  have h := wp_store (Γ := .empty) (defs := defs₀ (F := F)) 𝒱₀ (c : Thread nD τ) none Set.univ (m := gM) (r := brect b) (w := w) (Mk := Finset.univ) (hx := View.stores_vmem h_S1024x256 ((Memref.isWhole_whole _).storeExact_slice rfl _ p) (fun _ => rfl)) (hm := .inl rfl) (k := k) (Q := Q) (f := f) (S := bset b)
    (by rw [View.setOn_univ]; exact (acc_set b).subset)
  exact h

/-- A program run from `P` to `R`, with a continuation. -/
theorem wp_seq (c : Dev nD) {α β : Type} {p : Prog (TpuEff nD τ sig (Elt F) Λ₀ .tc) α} {k : α → Prog (TpuEff nD τ sig (Elt F) Λ₀ .tc) β}
    {P : sProp 𝕄} {R : α → sProp 𝕄} {Q : β → sProp 𝕄}
    (h : P ⊢ wp frame (wpE (defs₀ (F := F)) 𝒱₀ (c : Thread nD τ) none) Set.univ p R) :
    P ⊢ iprop((∀ a, R a -∗ wp frame (wpE (defs₀ (F := F)) 𝒱₀ (c : Thread nD τ) none) Set.univ (k a) Q)
      -∗ wp frame (wpE (defs₀ (F := F)) 𝒱₀ (c : Thread nD τ) none) Set.univ (p >>= k) Q) := by
  rw [wp_bind]
  refine BI.wand_intro ((sep_mono_left h).trans ((wp_frame_r _ _ _).trans (wp_mono _ _ _ fun a => ?_)))
  iintro ⟨HR, Hk⟩
  iapply Hk; iexact HR

omit [FloatOps F] in
/-- After the last hop every block is in place: the buffer is whole at the gathered contents. -/
theorem hops_end (g : GBuf F) (c : Dev nD) :
    hopSt g c 31 ⊢ iprop(gP c g ∗ (bigSep Finset.univ fun j : Fin 31 => hopDone (F := F) c j) ∗ ∃ W, owes (c : Thread nD τ) 0 W) := by
  unfold hopSt gP
  rw [rangeSet_empty (le_refl _), bigSep_empty, rangeSet_univ, rangeSet_univ, OH_last, whole_blocks c c g]
  iintro ⟨-, Hd, Hb, HO⟩
  isplitl [Hb]; · iexact Hb
  isplitl [Hd]; · iexact Hd
  iexact HO

/-- The state before hop `h`, with what every device knows throughout. -/
def ringSt (g : GBuf F) (c : Dev nD) (h : ℕ) : sProp 𝕄 := iprop(records g K ∗ levAts L lv ∗ hopSt g c h)

/-- One hop, from state to state. -/
theorem wp_ring_hop (g : GBuf F) (c : Dev nD) (h : ℕ) (hh : h < 31) (n : Dev nD) (hn : n = nxt c) (off : Fin 2 → ℕ) (hoff : off = boff (back c h))
    {inb : ∀ a, off a + S1024x256.size a ≤ S32768x256.size a}
    {hsc : (gM.slice (Rect.unit (s := S32768x256) off S1024x256.size inb) (fun _ => rfl) : Memref sig (Dev.tc n : Thread nD τ).2.kind .vmem S1024x256 .bf16).view.ref.isScScratch = false}
    {hsrc : (gM.slice (Rect.unit (s := S32768x256) off S1024x256.size inb) (fun _ => rfl)).view.WordExact}
    {hdst : (gM.slice (Rect.unit (s := S32768x256) off S1024x256.size inb) (fun _ => rfl) : Memref sig (Dev.tc n : Thread nD τ).2.kind .vmem S1024x256 .bf16).view.WordExact}
    {hsem : DmaTarget.Typed .vmem (.dma (recvS ⟨h, hh⟩)) (.remote (Dev.tc n : Thread nD τ)
      (gM.slice (Rect.unit (s := S32768x256) off S1024x256.size inb) (fun _ => rfl)) (.dma (sendS ⟨h, hh⟩)) hsc)}
    {h1 h2 h3 h4 : (gM.slice (Rect.unit (s := S32768x256) off S1024x256.size inb) (fun _ => rfl)).view.WordExact}
    {α : Type} {Q : α → sProp 𝕄} {k : PUnit → Prog (TpuEff nD τ sig (Elt F) Λ₀ .tc) α} :
    ringSt K g c h
      ⊢ iprop((ringSt K g c (h + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (gM.slice (Rect.unit (s := S32768x256) off S1024x256.size inb) (fun _ => rfl))
                (.remote (Dev.tc n : Thread nD τ) (gM.slice (Rect.unit (s := S32768x256) off S1024x256.size inb) (fun _ => rfl)) (.dma (sendS ⟨h, hh⟩)) hsc)
                (.dma (recvS ⟨h, hh⟩)) hsrc hdst hsem) fun _ =>
               .op (.waitDma2 (sendS ⟨h, hh⟩) (gM.slice (Rect.unit (s := S32768x256) off S1024x256.size inb) (fun _ => rfl))
                (gM.slice (Rect.unit (s := S32768x256) off S1024x256.size inb) (fun _ => rfl)) h1 h2) fun _ =>
               .op (.waitDma2 (recvS ⟨h, hh⟩) (gM.slice (Rect.unit (s := S32768x256) off S1024x256.size inb) (fun _ => rfl))
                (gM.slice (Rect.unit (s := S32768x256) off S1024x256.size inb) (fun _ => rfl)) h3 h4) k) Q) := by
  unfold ringSt
  iintro ⟨#HR, #Hlev, Hst⟩ Hk
  iapply (wp_hop g K c ⟨h, hh⟩ n hn off hoff) $$ [Hst]
  · isplitr; · iexact HR
    isplitr; · iexact Hlev
    iexact Hst
  iintro Hst
  iapply Hk
  isplitr; · iexact HR
  isplitr; · iexact Hlev
  iexact Hst

theorem rangeSet_succ_zero : rangeSet 32 0 (0 + 1) = {0} := by decide

omit [FloatOps F] in
/-- Before the first hop a device holds its own block. -/
theorem hops_start (g : GBuf F) (c : Dev nD) (W : Waits sig Unit) :
    iprop(records g K ∗ levAts L lv ∗ (bigSep Finset.univ fun j : Fin 31 => hopTodo (F := F) c j) ∗ blk c (back c 0) g ∗ owes (c : Thread nD τ) (OH c 0) W)
      ⊢ ringSt K g c 0 := by
  unfold ringSt hopSt
  rw [rangeSet_univ, rangeSet_empty (le_refl _), bigSep_empty, rangeSet_succ_zero, bigSep_singleton]
  iintro ⟨#HR, #Hlev, Htodo, Hown, HO⟩
  isplitr; · iexact HR
  isplitr; · iexact Hlev
  isplitl [Htodo]; · iexact Htodo
  isplitr; · iempintro
  isplitl [Hown]; · iexact Hown
  iexists W; iexact HO

theorem own_off (c : Dev nD) : k0_off1 c = boff (c : Fin 32) := k0_off1_eq c
theorem hop_off (c : Dev nD) (h : ℕ) (hh : h < 31) : k0_off2 c (BitVec.ofNat 32 h) = boff (back c h) := k0_off2_eq c ⟨h, hh⟩
theorem back_self (c : Dev nD) : back c 0 = (c : Fin 32) := Fin.ext (back_zero c)

set_option maxRecDepth 65536 in
set_option maxHeartbeats 4000000 in
/-- The parts after the sort, run: from the device's own block and the hops' resources to the merged buffer and the
    stored result. -/
theorem wp_rest (c : Dev nD) (v2 v7 : BitVec 32) (a b : Blk F) (mm : IVec S1024x256 1) (hpay : k0_pay250 a b mm = sorted m ρ c)
    (f0 : GBuf F) (fo : (cc0_stg1_0 : Ref sig .tc).ty.Contents (Elt F)) (W : Waits sig Unit) (Kt : PUnit → sProp 𝕄) :
    iprop(records (gathered m ρ) K ∗ levAts L lv ∗ blk c (back c 0) f0 ∗ (bigSep Finset.univ fun j : Fin 31 => hopTodo (F := F) c j)
        ∗ owes (c : Thread nD τ) (OH c 0) W ∗ (((c : Thread nD τ).loc cc0_stg1_0) ↦{fullShare} fo)
        ∗ ((gP c (mergeAll (gathered m ρ)) ∗ (bigSep Finset.univ fun j : Fin 31 => hopDone (F := F) c j)
            ∗ (∃ W, owes (c : Thread nD τ) 0 W) ∗ (((c : Thread nD τ).loc cc0_stg1_0) ↦{fullShare} outAt m ρ c)) -∗ |={Set.univ}=> Kt ⟨⟩))
      ⊢ wp frame (wpE (defs₀ (F := F)) 𝒱₀ c none) Set.univ
          (restProg (Memref.whole cc0_stg0_0) (Memref.isWhole_whole _) (Memref.whole cc0_stg1_0) (Memref.isWhole_whole _)
            (Memref.whole cc0_scratch0) (Memref.isWhole_whole _) cc0_scratch1 cc0_scratch2 c v2 v7 a b mm) Kt := by
  unfold restProg
  rw [k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton]
  unfold k0_part60_skel k0_part61_skel k0_part62_skel k0_part63_skel k0_part64_skel k0_part65_skel k0_part66_skel k0_part67_skel k0_part68_skel k0_part69_skel k0_part70_skel k0_part71_skel k0_part72_skel k0_part73_skel k0_part74_skel k0_part75_skel k0_part76_skel k0_part77_skel k0_part78_skel k0_part79_skel k0_part80_skel k0_part81_skel k0_part82_skel k0_part83_skel k0_part84_skel
  simp only [Prog.lift, Prog.bind_op, Prog.bind_ret, Prog.pure_eq_ret]
  iintro ⟨#HR, #Hlev, Hown, Htodo, HO, Hout, Hk⟩
  rw [back_self, hpay]
  iapply (wp_ld_own c c (own_off c) f0) $$ Hown; iintro Hown
  iapply (wp_st_own c c (own_off c) (p := k0_off1_packedbf16 c) (w := sorted m ρ c) f0) $$ Hown; iintro Hown
  ihave Hown := (Entails.of_eq (blk_congr c c (upd_gath (sorted m ρ) c f0))) $$ Hown
  ihave Hst := (hops_start K (gathered m ρ) c W) $$ [Hown Htodo HO]
  · isplitr; · iexact HR
    isplitr; · iexact Hlev
    isplitl [Htodo]; · iexact Htodo
    isplitl [Hown]; · rw [back_self]; iexact Hown
    iexact HO
  iapply (wp_ring_hop K (gathered m ρ) c 0 (by decide) _ (Fin.ext (k0_dev3_eq c)) _ (hop_off c 0 (by decide))) $$ Hst; iintro Hst
  iapply (wp_ring_hop K (gathered m ρ) c 1 (by decide) _ (Fin.ext (k0_dev4_eq c)) _ (hop_off c 1 (by decide))) $$ Hst; iintro Hst
  iapply (wp_ring_hop K (gathered m ρ) c 2 (by decide) _ (Fin.ext (k0_dev5_eq c)) _ (hop_off c 2 (by decide))) $$ Hst; iintro Hst
  iapply (wp_ring_hop K (gathered m ρ) c 3 (by decide) _ (Fin.ext (k0_dev6_eq c)) _ (hop_off c 3 (by decide))) $$ Hst; iintro Hst
  iapply (wp_ring_hop K (gathered m ρ) c 4 (by decide) _ (Fin.ext (k0_dev7_eq c)) _ (hop_off c 4 (by decide))) $$ Hst; iintro Hst
  iapply (wp_ring_hop K (gathered m ρ) c 5 (by decide) _ (Fin.ext (k0_dev8_eq c)) _ (hop_off c 5 (by decide))) $$ Hst; iintro Hst
  iapply (wp_ring_hop K (gathered m ρ) c 6 (by decide) _ (Fin.ext (k0_dev9_eq c)) _ (hop_off c 6 (by decide))) $$ Hst; iintro Hst
  iapply (wp_ring_hop K (gathered m ρ) c 7 (by decide) _ (Fin.ext (k0_dev10_eq c)) _ (hop_off c 7 (by decide))) $$ Hst; iintro Hst
  iapply (wp_ring_hop K (gathered m ρ) c 8 (by decide) _ (Fin.ext (k0_dev11_eq c)) _ (hop_off c 8 (by decide))) $$ Hst; iintro Hst
  iapply (wp_ring_hop K (gathered m ρ) c 9 (by decide) _ (Fin.ext (k0_dev12_eq c)) _ (hop_off c 9 (by decide))) $$ Hst; iintro Hst
  iapply (wp_ring_hop K (gathered m ρ) c 10 (by decide) _ (Fin.ext (k0_dev13_eq c)) _ (hop_off c 10 (by decide))) $$ Hst; iintro Hst
  iapply (wp_ring_hop K (gathered m ρ) c 11 (by decide) _ (Fin.ext (k0_dev14_eq c)) _ (hop_off c 11 (by decide))) $$ Hst; iintro Hst
  iapply (wp_ring_hop K (gathered m ρ) c 12 (by decide) _ (Fin.ext (k0_dev15_eq c)) _ (hop_off c 12 (by decide))) $$ Hst; iintro Hst
  iapply (wp_ring_hop K (gathered m ρ) c 13 (by decide) _ (Fin.ext (k0_dev16_eq c)) _ (hop_off c 13 (by decide))) $$ Hst; iintro Hst
  iapply (wp_ring_hop K (gathered m ρ) c 14 (by decide) _ (Fin.ext (k0_dev17_eq c)) _ (hop_off c 14 (by decide))) $$ Hst; iintro Hst
  iapply (wp_ring_hop K (gathered m ρ) c 15 (by decide) _ (Fin.ext (k0_dev18_eq c)) _ (hop_off c 15 (by decide))) $$ Hst; iintro Hst
  iapply (wp_ring_hop K (gathered m ρ) c 16 (by decide) _ (Fin.ext (k0_dev19_eq c)) _ (hop_off c 16 (by decide))) $$ Hst; iintro Hst
  iapply (wp_ring_hop K (gathered m ρ) c 17 (by decide) _ (Fin.ext (k0_dev20_eq c)) _ (hop_off c 17 (by decide))) $$ Hst; iintro Hst
  iapply (wp_ring_hop K (gathered m ρ) c 18 (by decide) _ (Fin.ext (k0_dev21_eq c)) _ (hop_off c 18 (by decide))) $$ Hst; iintro Hst
  iapply (wp_ring_hop K (gathered m ρ) c 19 (by decide) _ (Fin.ext (k0_dev22_eq c)) _ (hop_off c 19 (by decide))) $$ Hst; iintro Hst
  iapply (wp_ring_hop K (gathered m ρ) c 20 (by decide) _ (Fin.ext (k0_dev23_eq c)) _ (hop_off c 20 (by decide))) $$ Hst; iintro Hst
  iapply (wp_ring_hop K (gathered m ρ) c 21 (by decide) _ (Fin.ext (k0_dev24_eq c)) _ (hop_off c 21 (by decide))) $$ Hst; iintro Hst
  iapply (wp_ring_hop K (gathered m ρ) c 22 (by decide) _ (Fin.ext (k0_dev25_eq c)) _ (hop_off c 22 (by decide))) $$ Hst; iintro Hst
  iapply (wp_ring_hop K (gathered m ρ) c 23 (by decide) _ (Fin.ext (k0_dev26_eq c)) _ (hop_off c 23 (by decide))) $$ Hst; iintro Hst
  iapply (wp_ring_hop K (gathered m ρ) c 24 (by decide) _ (Fin.ext (k0_dev27_eq c)) _ (hop_off c 24 (by decide))) $$ Hst; iintro Hst
  iapply (wp_ring_hop K (gathered m ρ) c 25 (by decide) _ (Fin.ext (k0_dev28_eq c)) _ (hop_off c 25 (by decide))) $$ Hst; iintro Hst
  iapply (wp_ring_hop K (gathered m ρ) c 26 (by decide) _ (Fin.ext (k0_dev29_eq c)) _ (hop_off c 26 (by decide))) $$ Hst; iintro Hst
  iapply (wp_ring_hop K (gathered m ρ) c 27 (by decide) _ (Fin.ext (k0_dev30_eq c)) _ (hop_off c 27 (by decide))) $$ Hst; iintro Hst
  iapply (wp_ring_hop K (gathered m ρ) c 28 (by decide) _ (Fin.ext (k0_dev31_eq c)) _ (hop_off c 28 (by decide))) $$ Hst; iintro Hst
  iapply (wp_ring_hop K (gathered m ρ) c 29 (by decide) _ (Fin.ext (k0_dev32_eq c)) _ (hop_off c 29 (by decide))) $$ Hst; iintro Hst
  iapply (wp_ring_hop K (gathered m ρ) c 30 (by decide) _ (Fin.ext (k0_dev33_eq c)) _ (hop_off c 30 (by decide))) $$ Hst; iintro Hst
  -- every block gathered
  unfold ringSt
  icases Hst with ⟨-, -, Hst⟩
  ihave Hst := (hops_end (gathered m ρ) c) $$ Hst
  icases Hst with ⟨Hg, Hdone, HO⟩
  -- the merge
  iapply (wp_seq c (wp_merge_front c (gathered m ρ))) $$ Hg
  iintro %r ⟨%hr, Hg⟩
  subst hr
  iapply (wp_seq c (wp_merge_rest c _ v2)) $$ Hg
  iintro %_ Hg
  rw [merge_whole]
  -- the device's own block, stored
  iapply (wp_ld_at c c (own_off c) (mergeAll (gathered m ρ))) $$ Hg; iintro Hg
  iapply (wp_load 𝒱₀ (c : Thread nD τ) none Set.univ (m := oM) (Finset.subset_univ _)) $$ Hout; iintro Hout
  iapply (wp_store 𝒱₀ (c : Thread nD τ) none Set.univ (m := oM) (r := r0) (Finset.subset_univ _)) $$ Hout
  rw [write_out]; iintro Hout
  rw [wp_ret]
  iapply Hk
  isplitl [Hg]; · iexact Hg
  isplitl [Hdone]; · iexact Hdone
  isplitl [HO]; · iexact HO
  iexact Hout

end Body

end Cert.KernelIdeal.Run

end
-- ==== Proof.KernelIdeal.Body.lean ====
/-
The kernel's body on one device, run: the barrier, the sort of its block, then the parts after it.
-/
module

public import proofs.«01_k».proof.Proof.KernelIdeal.Rest
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- What the hops start with, hop by hop. -/
theorem todo_intro (c : Dev nD) :
    iprop((bigSep Finset.univ fun j : Fin 31 => hopStart (F := F) c j) ∗ (bigSep Finset.univ fun j : Fin 31 => cred (tallyAt (recvCell c j) () N)) ∗ barPay (F := F) c)
      ⊢ (bigSep Finset.univ fun j : Fin 31 => hopTodo (F := F) c j : sProp 𝕄) := by
  unfold barPay
  rw [← bigSep_sep', ← bigSep_sep']
  refine bigSep_mono fun j _ => ?_
  show iprop(hopStart (F := F) c j ∗ cred (tallyAt (recvCell c j) () N) ∗ ∃ f, blk (nxt c) (back c j.val) f) ⊢ hopTodo (F := F) c j
  unfold hopStart hopTodo
  iintro ⟨⟨HS, HV, HtS, HtV⟩, HC, HB⟩
  isplitl [HS]; · iexact HS
  isplitl [HV]; · iexact HV
  isplitl [HC]; · iexact HC
  isplitl [HtS]; · iexact HtS
  isplitl [HtV]; · iexact HtV
  iexact HB

omit [FloatOps F] in
/-- After the last hop, the hops' cells are closed. -/
theorem close_hops (g : GBuf F) (K : Dev nD × CI → ℕ) (c : Dev nD) :
    iprop(records g K ∗ bigSep Finset.univ fun j : Fin 31 => hopDone (F := F) c j)
      ⊢ (|={Set.univ}=> bigSep Finset.univ fun k : Fin 31 ⊕ Fin 31 => semVal ((c : Thread nD τ), osem k) 0 : sProp 𝕄) := by
  unfold hopDone
  have e : (bigSep Finset.univ fun k : Fin 31 ⊕ Fin 31 => (semVal ((c : Thread nD τ), osem k) 0 : sProp 𝕄))
      = iprop((bigSep Finset.univ fun j : Fin 31 => semVal (kcell (c, .inr (.inl j))) 0) ∗ bigSep Finset.univ fun j : Fin 31 => semVal (kcell (c, .inr (.inr j))) 0) :=
    BI.bigSep_univ_sum _
  rw [bigSep_sep', e]
  iintro ⟨#HR, HS, HV⟩
  imod (close_cells g K c (fun j : Fin 31 => .inr (.inl j))) $$ [HS] with HS
  · isplitr; · iexact HR
    iexact HS
  imod (close_cells g K c (fun j : Fin 31 => .inr (.inr j))) $$ [HV] with HV
  · isplitr; · iexact HR
    iexact HV
  imodintro
  isplitl [HS]; · iexact HS
  iexact HV

section Body

variable (K : Dev nD × CI → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m ρ K c ∗ cred (tallyAt (barCell c) () 2) ∗ (bigSep Finset.univ fun j : Fin 31 => cred (tallyAt (recvCell c j) () N)) ∗ levAts L lv ∗ ∃ f, gP c f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m ρ c ∗ (dats m ρ 0 c).owesAt () t₀.succ ∗ stg c cc0_stg0_0 (xstg m ρ c) ∗ stg c cc0_stg1_0 (outAt m ρ c))

set_option maxRecDepth 65536 in
set_option maxHeartbeats 4000000 in
/-- The body, run from `bodyPre` to `bodyPost`, one rule for each effect in program order. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0__body (Memref.whole cc0_stg0_0) (Memref.isWhole_whole _) (Memref.whole cc0_stg1_0) (Memref.isWhole_whole _)
            (Memref.whole cc0_scratch0) (Memref.isWhole_whole _) cc0_scratch1 cc0_scratch2) Kt := by
  rw [cc0__body_eq_skeleton, body_split]
  rw [k0_part36_eq_skeleton]; unfold k0_part36_skel
  simp only [semSignalWord, semWaitWord, Prog.lift, Prog.bind_op, Prog.bind_ret, Prog.pure_eq_ret, wp_deviceId]
  unfold bodyPre ghost
  iintro ⟨⟨⟨⟨#HR, HatB, HtBN, HtBP, Hhops⟩, HcB, Hcs, #Hlev, ⟨%f0, Hscr⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  simp only [dev1_eq c, dev2_eq c]
  ihave Hs := (split_blocks c f0) $$ Hscr
  icases Hs with ⟨Hown, Hpay⟩
  -- the signal to the device before: the blocks the device's copies are going to fill go with it
  iapply (Rounds.wp_signal 𝒱₀ ER (ringRd (gathered m ρ)) (c : Thread nD τ) none (dst := (prv c : Thread nD τ)) (κ := K (prv c, .inl ()))
      (d := true) (by rw [duties_bar]; exact Finset.mem_univ _) ((amount_bar (gathered m ρ) (prv c) true).trans (by decide)) () (O₁ c) rfl)
    $$ [HO HtBP Hpay]
  · isplitr; · iapply (records_inv (gathered m ρ) K (prv c, .inl ())); iexact HR
    isplitl [HO]; · iexact HO
    isplitl [HtBP]; · iexact HtBP
    isplitl [Hpay]
    · rw [payload_bar_true]; iexact Hpay
    · iapply (records_reached (gathered m ρ) K (prv c, .inl ())); iexact HR
  iintro HO
  unfold O₁
  -- the signal to the device after
  iapply (Rounds.wp_signal 𝒱₀ ER (ringRd (gathered m ρ)) (c : Thread nD τ) none (dst := (nxt c : Thread nD τ)) (κ := K (nxt c, .inl ()))
      (d := false) (by rw [duties_bar]; exact Finset.mem_univ _) ((amount_bar (gathered m ρ) (nxt c) false).trans (by decide)) () (OH c 0) rfl)
    $$ [HO HtBN]
  · isplitr; · iapply (records_inv (gathered m ρ) K (nxt c, .inl ())); iexact HR
    isplitl [HO]; · iexact HO
    isplitl [HtBN]; · iexact HtBN
    isplitr; · rw [payload_bar_false]; iempintro
    iapply (records_reached (gathered m ρ) K (nxt c, .inl ())); iexact HR
  iintro HO
  -- the barrier: the next device's blocks come with it
  iapply (Rounds.wp_wait_rest_token 𝒱₀ ER (ringRd (gathered m ρ)) (c : Thread nD τ) none (κ := K (c, .inl ()))
      (wpE_semWait_eq 𝒱₀ (c : Thread nD τ) none Set.univ) (Set.mem_univ _) () (O := OH c 0) (W := W) (R := 0) (m := 0) (T := ∅)
      (by rw [expect_bar]; decide)) $$ [HcB HO HatB]
  · isplitr; · iapply (records_inv (gathered m ρ) K (c, .inl ())); iexact HR
    isplitl [HcB]; · iexact HcB
    isplitl [HO]; · iexact HO
    isplitr; · iapply (mayWait_hop c (.reg barS) 0 (by rw [lv_bar]; decide)); iexact Hlev
    iexact HatB
  iintro ⟨HO, HatB, -, Hpay⟩
  ihave Hp := (Entails.of_eq (rest_bar (gathered m ρ) c)) $$ Hpay
  icases Hp with ⟨-, Hpay⟩
  -- the block's sort
  iapply (wp_load 𝒱₀ (c : Thread nD τ) none Set.univ (m := xM) (Finset.subset_univ _)) $$ Hx; iintro Hx
  rw [read_x]
  rw [pay139_eq, pay140_eq, pay136_eq, pay137_eq, pay138_eq, rows_eq]
  obtain ⟨a, b, mm, he, hpay⟩ := sort_parts (Memref.whole cc0_stg0_0) (Memref.isWhole_whole _) (Memref.whole cc0_stg1_0) (Memref.isWhole_whole _)
    (Memref.whole cc0_scratch0) (Memref.isWhole_whole _) cc0_scratch1 cc0_scratch2 (flipOf c) (xstg m ρ c)
    (restProg (Memref.whole cc0_stg0_0) (Memref.isWhole_whole _) (Memref.whole cc0_stg1_0) (Memref.isWhole_whole _)
      (Memref.whole cc0_scratch0) (Memref.isWhole_whole _) cc0_scratch1 cc0_scratch2 c (Scalar.remsi (Scalar.divsi (Dev.word c) 1#32) 32#32)
      (Scalar.remsi (Scalar.addi (Scalar.remsi (Scalar.divsi (Dev.word c) 1#32) 32#32) 1#32) 32#32))
  rw [he]
  rw [shapeCast_self] at hpay
  iapply (wp_rest m ρ K c _ _ a b mm hpay f0 g1 _ _)
  isplitr; · iexact HR
  isplitr; · iexact Hlev
  isplitl [Hown]; · iexact Hown
  isplitl [Hhops Hcs Hpay]
  · iapply (todo_intro c)
    isplitl [Hhops]; · iexact Hhops
    isplitl [Hcs]; · iexact Hcs
    iexact Hpay
  isplitl [HO]; · iexact HO
  isplitl [Hout]; · iexact Hout
  iintro ⟨Hg, Hdone, ⟨%W', HO⟩, Hout⟩
  imod (close_hops (gathered m ρ) K c) $$ [Hdone] with Hz
  · isplitr; · iexact HR
    iexact Hdone
  imod (Rounds.cell_close ER (ringRd (gathered m ρ)) (Set.mem_univ (K (c, .inl ()))) (fun h => h) (R := 0 + 1)
    (duties_later (gathered m ρ) (barCell c))) $$ [HatB] with HzB
  · isplitr; · iapply (records_inv (gathered m ρ) K (c, .inl ())); iexact HR
    iexact HatB
  imodintro
  iapply Hk
  unfold bodyPost Φ₁ Dat.owesAt Pipeline.owesWithin
  rw [show (dats m ρ 0 c).owed t₀.succ = 0 from rfl]
  isplitl [Hg Hz HzB]
  · isplitl [Hg]; · iexact Hg
    isplitl [Hz]; · iexact Hz
    iexact HzB
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 65536 in
/-- The pipeline's obligation for the body on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0__body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, H1, H2, H3⟩, Hscr⟩, Ho, Hx, Hout⟩
  iapply (sound_body m ρ K c fun _ => bodyPost m ρ c)
  unfold bodyPre
  isplitr []
  · isplitl [Hg H1 H2 H3 Hscr]
    · isplitl [Hg]; · iexact Hg
      isplitl [H1]; · iexact H1
      isplitl [H2]; · iexact H2
      isplitl [H3]; · iexact H3
      iexact Hscr
    isplitl [Ho]; · iexact Ho
    isplitl [Hx]; · iexact Hx
    iexact Hout
  · iintro H; iexact H

end Body

end Cert.KernelIdeal.Run

end
-- ==== Proof.KernelIdeal.Launch.lean ====
/-
The launch: from the memory's initial state to every device's body, and from the bodies' ends to the final state.
-/
module

public import proofs.«01_k».proof.Proof.KernelIdeal.Body
public import Idealize.ShloMosaic.Lib.Pipeline.CollectiveSegs
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

/-! ## The ring's ghost state -/

def ringCells : Finset (GSem nD τ sig) := Finset.univ.map ⟨kcell, kcell_injective⟩

/-- The duty tokens of a device's own cells: its barrier's two, one of each hop's cell. -/
abbrev TI : Type := Bool ⊕ (Fin 31 ⊕ Fin 31)
abbrev tokOf (cj : Dev nD × TI) : GSem nD τ sig × ℕ × Bool :=
  match cj.2 with
  | .inl d => (barCell cj.1, 0, d)
  | .inr k => (kcell (cj.1, .inr k), 0, false)
theorem tokOf_injective : Function.Injective (tokOf : Dev nD × TI → GSem nD τ sig × ℕ × Bool) := by
  rintro ⟨c, d | k⟩ ⟨c', d' | k'⟩ h
  · have h1 : c = c' := barCell_inj (congrArg Prod.fst h)
    have h2 : d = d' := congrArg (fun x : GSem nD τ sig × ℕ × Bool => x.2.2) h
    rw [h1, h2]
  · exact absurd (congrArg (fun x : GSem nD τ sig × ℕ × Bool => x.1.2) h).symm (osem_ne_bar k')
  · exact absurd (congrArg (fun x : GSem nD τ sig × ℕ × Bool => x.1.2) h) (osem_ne_bar k)
  · have h1 := kcell_injective (a₁ := (c, .inr k)) (a₂ := (c', .inr k')) (congrArg Prod.fst h)
    have h2 : c = c' := congrArg Prod.fst h1
    have h3 : k = k' := Sum.inr.inj (congrArg Prod.snd h1)
    rw [h2, h3]
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The duty tokens of device `c`'s own cells, -/
def toks (c : Dev nD) : sProp 𝕄 :=
  iprop((dutyTok ER (barCell c) 0 false ∗ dutyTok ER (barCell c) 0 true)
    ∗ (bigSep Finset.univ fun j : Fin 31 => dutyTok ER (sendCell c j) 0 false) ∗ bigSep Finset.univ fun j : Fin 31 => dutyTok ER (recvCell c j) 0 false)
/-- and those of the duties it pays. -/
def payToks (c : Dev nD) : sProp 𝕄 :=
  iprop((dutyTok ER (barCell (nxt c)) 0 false ∗ dutyTok ER (barCell (prv c)) 0 true)
    ∗ (bigSep Finset.univ fun j : Fin 31 => dutyTok ER (sendCell c j) 0 false) ∗ bigSep Finset.univ fun j : Fin 31 => dutyTok ER (recvCell (nxt c) j) 0 false)

/-- What the launch deals device `c`: its cells' states and positions, its cells' tokens. -/
def G (c : Dev nD) : sProp 𝕄 :=
  iprop((bigSep Finset.univ fun k : CI => roundState ER (ringRd (gathered m ρ)) (kcell (c, k)) 0)
    ∗ (bigSep Finset.univ fun k : CI => iprop(atPos ER (kcell (c, k)) 0 ∅ 0 ∗ reached ER (kcell (c, k)) 0)) ∗ toks c)
/-- What the devices together make of it. -/
def G' (c : Dev nD) : sProp 𝕄 := iprop(∃ K, ghost m ρ K c)

omit [FloatOps F] in
theorem bigSep_CI (Φ : CI → sProp 𝕄) : bigSep Finset.univ Φ
    = iprop(Φ (.inl ()) ∗ (bigSep Finset.univ fun j : Fin 31 => Φ (.inr (.inl j))) ∗ bigSep Finset.univ fun j : Fin 31 => Φ (.inr (.inr j))) := by
  rw [BI.bigSep_univ_sum, BI.bigSep_univ_sum, bigSep_univ_eq_bigSepL [()] (by decide) (by decide), bigSepL_singleton]
  rfl

omit [FloatOps F] in
theorem toks_eq (c : Dev nD) : (bigSep Finset.univ fun j : TI => dutyTok ER (tokOf (c, j)).1 (tokOf (c, j)).2.1 (tokOf (c, j)).2.2 : sProp 𝕄) = toks c := by
  unfold toks
  rw [BI.bigSep_univ_sum, BI.bigSep_univ_sum, bigSep_univ_eq_bigSepL [false, true] (by decide) (by decide), bigSepL_cons_cons, bigSepL_singleton]
  rfl

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CI => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_eq c
  iintro HX
  imod (Rounds.fund ER (ringRd (gathered m ρ)) ringCells ringToks) $$ HX with ⟨Hst, Hr, Hat, Htok⟩
  imodintro
  ihave Hst' := (Entails.of_eq (hX fun g => roundState ER (ringRd (gathered m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The kernel's own semaphores are the hops'; -/
theorem ownSems0_eq (c : Dev nD) : (Pipeline.ownSems0 (Ix := Unit) (Name := ℕ) (U := UU) (Lvl := ℕ) (Val := Elt F) (τ := τ) osem c : sProp 𝕄)
    = bigSep Finset.univ fun k : Fin 31 ⊕ Fin 31 => semVal ((c : Thread nD τ), osem k) 0 := rfl
omit [FloatOps F] in
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
  have e : (bigSep Finset.univ fun k : Fin 31 ⊕ Fin 31 => semVal ((c : Thread nD τ), osem k) 0 : sProp 𝕄)
      = iprop((bigSep Finset.univ fun j : Fin 31 => semVal ((c : Thread nD τ), osem (.inl j)) 0) ∗ bigSep Finset.univ fun j : Fin 31 => semVal ((c : Thread nD τ), osem (.inr j)) 0) := BI.bigSep_univ_sum _
  rw [ownSems0_eq, unscopedSems0_eq, bigSep_CI, e]
  iintro ⟨⟨HS, HV⟩, HB⟩
  isplitl [HB]; · iexact HB
  isplitl [HS]
  · iexact HS
  iexact HV

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CI => iprop(∃ κ : ℕ, cellInv ER (ringRd (gathered m ρ)) κ (kcell (c, k))))
          ∗ (bigSep Finset.univ fun k : CI => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CI => semVal (kcell (c, k)) 0) ∗ bigSep Finset.univ fun k : CI => roundState ER (ringRd (gathered m ρ)) (kcell (c, k)) 0)
      ⊢ (|={Set.univ}=> bigSep Finset.univ fun k : CI => iprop(∃ κ : ℕ, cellInv ER (ringRd (gathered m ρ)) κ (kcell (c, k))) : sProp 𝕄) from by
        rw [← bigSep_sep']
        exact (bigSep_mono fun k _ => (Rounds.body_intro ER (ringRd (gathered m ρ)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What stays with device `c`: its positions, and the tokens of the duties it pays. -/
def linear (c : Dev nD) : sProp 𝕄 :=
  iprop((bigSep Finset.univ fun k : CI => atPos ER (kcell (c, k)) 0 ∅ 0) ∗ payToks c)

theorem ghost_intro (K : Dev nD × CI → ℕ) (c : Dev nD) : iprop(records (gathered m ρ) K ∗ linear c) ⊢ G' m ρ c := by
  unfold linear payToks G' ghost hopStart
  rw [bigSep_CI]
  simp only [bigSep_sep']
  iintro ⟨#HR, ⟨HaB, HaS, HaV⟩, ⟨HtBN, HtBP⟩, HtS, HtV⟩
  iexists K
  isplitr; · iexact HR
  isplitl [HaB]; · iexact HaB
  isplitl [HtBN]; · iexact HtBN
  isplitl [HtBP]; · iexact HtBP
  isplitl [HaS]; · iexact HaS
  isplitl [HaV]; · iexact HaV
  isplitl [HtS]; · iexact HtS
  iexact HtV

omit [FloatOps F] in
/-- The tokens dealt around the ring: every device's barrier and receive tokens go to the devices that pay them. -/
theorem toks_around : (bigSep Finset.univ fun c : Dev nD => (toks c : sProp 𝕄)) ⊢ bigSep Finset.univ fun c : Dev nD => payToks c := by
  unfold toks payToks
  simp only [bigSep_sep']
  rw [bigSep_univ_equiv ring (fun c : Dev nD => (dutyTok ER (barCell c) 0 false : sProp 𝕄)),
    bigSep_univ_equiv ring.symm (fun c : Dev nD => (dutyTok ER (barCell c) 0 true : sProp 𝕄)),
    bigSep_univ_equiv ring (fun c : Dev nD => (bigSep Finset.univ fun j : Fin 31 => dutyTok ER (recvCell c j) 0 false : sProp 𝕄))]
  exact BI.Entails.refl _

theorem regroup :
    (bigSep Finset.univ fun c : Dev nD => iprop((bigSep Finset.univ fun k : CI => iprop(∃ κ : ℕ, cellInv ER (ringRd (gathered m ρ)) κ (kcell (c, k))))
          ∗ (bigSep Finset.univ fun k : CI => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CI => iprop(∃ κ : ℕ, cellInv ER (ringRd (gathered m ρ)) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (ringRd (gathered m ρ)) κ (kcell ck) : sProp 𝕄))) $$ HI
  icases HK with ⟨%K, #HI⟩
  ihave Htk := (toks_around (F := F)) $$ Htok
  have hg : iprop(records (gathered m ρ) K ∗ bigSep Finset.univ fun c : Dev nD => linear (F := F) c) ⊢ bigSep Finset.univ (G' m ρ) :=
    (sep_mono_left (BI.bigSep_of_persistent (Finset.univ : Finset (Dev nD)) (records (gathered m ρ) K))).trans
      (by rw [← bigSep_sep']; exact bigSep_mono fun c _ => ghost_intro m ρ K c)
  iapply hg
  isplitr
  · unfold records; isplitl; · iexact HI
    iexact HR
  · unfold linear
    rw [bigSep_sep']
    isplitl [Hat]; · iexact Hat
    iexact Htk

/-- The devices' semaphores, all at once, become the cells. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- What device `d` owes device `c`'s barrier: a unit if `c` is before it, a unit if `c` is after it. -/
theorem owed_bar (d c : Dev nD) : O₀ d (barCell c) () = (if d = nxt c then 1 else 0) + (if d = prv c then 1 else 0) := by
  have h0 : OH d 0 (barCell c) () = 0 := by
    by_contra h
    obtain ⟨j, -, e⟩ := OH_pos (Nat.pos_of_ne_zero h)
    exact recv_ne_bar _ _ _ e.symm
  unfold O₀ O₁
  rw [Pi.add_apply, Finsupp.add_apply, Pi.add_apply, Finsupp.add_apply, h0, tallyAt_apply, tallyAt_apply, Nat.zero_add, add_comm]
  refine congrArg₂ (· + ·) ?_ ?_
  · by_cases h : d = nxt c
    · subst h; rw [prv_nxt, if_pos ⟨rfl, rfl⟩, if_pos rfl]
    · rw [if_neg (fun ⟨h1, _⟩ => h (by rw [← nxt_prv d]; exact congrArg nxt (barCell_inj h1).symm)), if_neg h]
  · by_cases h : d = prv c
    · subst h; rw [nxt_prv, if_pos ⟨rfl, rfl⟩, if_pos rfl]
    · rw [if_neg (fun ⟨h1, _⟩ => h (by rw [← prv_nxt d]; exact congrArg prv (barCell_inj h1).symm)), if_neg h]

/-- What it owes `c`'s receive cells: a block's credit each if `c` is after it. -/
theorem owed_recv (d c : Dev nD) (j : Fin 31) : O₀ d (recvCell c j) () = if d = prv c then N else 0 := by
  unfold O₀ O₁
  rw [Pi.add_apply, Finsupp.add_apply, Pi.add_apply, Finsupp.add_apply, OH_apply, rangeSet_univ,
    tallyAt_ne_cell (fun h => recv_ne_bar _ _ _ h), tallyAt_ne_cell (fun h => recv_ne_bar _ _ _ h), Finsupp.zero_apply, Nat.add_zero, Nat.add_zero]
  by_cases h : d = prv c
  · subst h
    rw [nxt_prv, if_pos rfl, Finset.sum_eq_single j]
    · rw [tallyAt_apply, if_pos ⟨rfl, rfl⟩]
    · intro b _ hb
      rw [tallyAt_apply, if_neg fun h' => hb (recvCell_inj h'.1).2.symm]
    · intro h; exact absurd (Finset.mem_univ j) h
  · rw [if_neg h]
    refine Finset.sum_eq_zero fun b _ => ?_
    rw [tallyAt_apply, if_neg fun h' => h (by rw [(recvCell_inj h'.1).1, prv_nxt])]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (nxt c) fun _ => 1, Finset.sum_ite_eq' Finset.univ (prv c) fun _ => 1, if_pos (Finset.mem_univ _), if_pos (Finset.mem_univ _)]

theorem launch_recv (c : Dev nD) (j : Fin 31) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv d c j, Finset.sum_ite_eq' Finset.univ (prv c) fun _ => N,
    if_pos (Finset.mem_univ _)]

omit [FloatOps F] in
theorem creds (c : Dev nD) :
    (Pipeline.launchCred O₀ c : sProp 𝕄) ⊢ iprop(cred (tallyAt (barCell c) () 2) ∗ bigSep Finset.univ fun j : Fin 31 => cred (tallyAt (recvCell c j) () N)) := by
  unfold Pipeline.launchCred
  rw [bigSep_univ_at _ (SemLoc.reg barS), launch_bar]
  refine sep_mono_right ?_
  have hinj : Function.Injective fun j : Fin 31 => (SemLoc.dma (recvS j) : SemLoc sig) := fun a b h =>
    Sum.inr.inj (osem_injective (a₁ := .inr a) (a₂ := .inr b) h)
  have hsub : Finset.univ.map ⟨_, hinj⟩ ⊆ (Finset.univ : Finset (SemLoc sig)).erase (SemLoc.reg barS) := by
    intro x hx
    obtain ⟨j, -, rfl⟩ := Finset.mem_map.mp hx
    exact Finset.mem_erase.mpr ⟨(fun h => nomatch h), Finset.mem_univ _⟩
  refine (bigSep_subset hsub).trans ?_
  rw [bigSep_map]
  exact Entails.of_eq (bigSep_congr fun j _ => congrArg cred (launch_recv c j))

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ gP
  iintro ⟨Hs, -, ⟨%f, Hr⟩⟩
  isplitl [Hs]; · iexact Hs
  iexists f; iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, ownSems0_eq, unscopedSems0_eq]
  unfold Φ₁ gP
  iintro ⟨Hr, Hz, HzB⟩
  isplitl [HzB]; · iexact HzB
  isplitl [Hz]; · iexact Hz
  iexists (mergeAll (gathered m ρ)); iexact Hr

theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> rfl) _ (by
      rcases t with ⟨_ | _, ht⟩
      · exact Or.inl rfl
      · exact Or.inr rfl)

/-! ## The run -/

/-- What a window's array holds after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values, from any memory with zero counters, every weakly fair execution of `main` on the 32 devices
    ends, with every array at `finalA` and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument's array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result's array after the run, read by its one block, is what the body stored. -/
theorem finalA_o (c : Dev nD) : (win0_1.blk (0 : Fin 1)).view.read (Elt F) (finalA m ρ c (1 : Fin 2)) = outAt m ρ c := by
  unfold finalA
  rw [show cfg0.N = ((0 : Fin 1) : Fin cfg0.N).val + 1 from rfl, (dats m ρ 0 c).arrAt_succ (1 : Fin 2) (0 : Fin 1),
    show (cfg0.win (1 : Fin 2)).flush (0 : Fin 1) = true from by decide, if_pos rfl]
  exact View.read_write_univ _ _

/-- The whole result array. -/
theorem finalA_out (c : Dev nD) : finalA m ρ c (1 : Fin 2) = outAt m ρ c := by
  have hz : (fun a => (win0_1.index (0 : Fin 1)) a * main_v1.ty.shape.size a) = fun _ => 0 := funext fun a => by fin_cases a <;> decide
  have hr := Memref.read_access_unit_zero (Elt F) main_v1 hz (fun a => by fin_cases a <;> decide) (finalA m ρ c (1 : Fin 2))
  exact hr.symm.trans (finalA_o m ρ c)

end Cert.KernelIdeal.Run

end
-- ==== Proof.SortMath.lean ====
/-
Bitonic sorting on vectors of a linear order: what a stage leaves at one position, that a vector has one sorted
rearrangement, and that the levels above chunks sorted in alternating directions sort the whole.
-/
module

public import Idealize.ShloMosaic.Lib.SortNet.Sorts

@[expose] public section

namespace Cert.SortMath

open Idealize.ShloMosaic.SortNet

variable {α : Type*} [LinearOrder α]

theorem testBit_of_set {n s : ℕ} (h : n &&& 2 ^ s ≠ 0) : n.testBit s = true := by
  cases e : n.testBit s
  · exact absurd ((and_two_pow_eq_zero_iff_testBit n s).mpr e) h
  · rfl

/-- What a stage leaves at position `i` of a pair asked one direction: the smaller where bit `s` of `i` is the direction's
    bit, the larger elsewhere. -/
theorem stage_at {p s : ℕ} (hs : s < p) (w : Fin (2 ^ p) → Bool) (hw : ∀ i, w (partner p s i) = w i) (v : Fin (2 ^ p) → α) (i : Fin (2 ^ p)) :
    Network.apply (stage p s w) v i
      = if i.val.testBit s = w i then min (v i) (v (partner p s i)) else max (v i) (v (partner p s i)) := by
  by_cases hi : i.val &&& 2 ^ s = 0
  · rw [(apply_stage hs w v i hi).1, (and_two_pow_eq_zero_iff_testBit _ _).mp hi]
    cases w i <;> rfl
  · have h1 := (apply_stage hs w v (partner p s i) (partner_and_of_set hs i hi)).2
    rw [partner_partner hs, hw] at h1
    rw [h1, testBit_of_set hi, min_comm, max_comm]
    cases w i <;> rfl

/-- An ascending rearrangement of an ascending vector is that vector: -/
theorem ascending_unique {n : ℕ} (f g : Fin n → α) (σ : Equiv.Perm (Fin n)) (e : f = g ∘ σ) (hf : Monotone f) (hg : Monotone g) : f = g := by
  have hp : (List.ofFn f).Perm (List.ofFn g) := by rw [e]; exact Equiv.Perm.ofFn_comp_perm σ g
  have hl : List.ofFn f = List.ofFn g := List.Perm.eq_of_pairwise (le := fun a b => a ≤ b) (fun a b _ _ h1 h2 => le_antisymm h1 h2)
    (List.pairwise_ofFn.mpr fun i j h => hf (le_of_lt h)) (List.pairwise_ofFn.mpr fun i j h => hg (le_of_lt h)) hp
  exact List.ofFn_injective hl

/-- two networks that leave a vector ascending agree on it, -/
theorem monotone_unique {n : ℕ} (x : Fin n → α) (N M : Network n) (hN : Monotone (Network.apply N x)) (hM : Monotone (Network.apply M x)) :
    Network.apply N x = Network.apply M x := by
  obtain ⟨σ, hσ⟩ := Network.exists_perm N x
  obtain ⟨τ, hτ⟩ := Network.exists_perm M x
  refine ascending_unique _ _ (σ.trans τ.symm) ?_ hN hM
  rw [hσ, hτ]
  funext i
  exact congrArg x (τ.apply_symm_apply (σ i)).symm

/-- and so do two that leave it descending. -/
theorem antitone_unique {n : ℕ} (x : Fin n → α) (N M : Network n) (hN : Antitone (Network.apply N x)) (hM : Antitone (Network.apply M x)) :
    Network.apply N x = Network.apply M x := by
  obtain ⟨σ, hσ⟩ := Network.exists_perm N x
  obtain ⟨τ, hτ⟩ := Network.exists_perm M x
  have h := ascending_unique (α := αᵒᵈ) (fun i => OrderDual.toDual (Network.apply N x i)) (fun i => OrderDual.toDual (Network.apply M x i)) (σ.trans τ.symm)
    (by
      rw [hσ, hτ]
      funext i
      exact congrArg (fun k => OrderDual.toDual (x k)) (τ.apply_symm_apply (σ i)).symm) hN.dual_right hM.dual_right
  exact funext fun i => OrderDual.toDual.injective (congrFun h i)

/-- The first levels act on every chunk of their size as a network. -/
theorem levels_on_chunk {P p : ℕ} (hp : p ≤ P) (c : Fin (2 ^ (P - p))) : ∀ l, l ≤ p → ∃ N : Network (2 ^ p), ∀ v : Fin (2 ^ P) → α,
    (fun j => Network.apply (levelsNet P false l) v (chunkPos hp c j)) = Network.apply N fun j => v (chunkPos hp c j)
  | 0, _ => ⟨[], fun _ => rfl⟩
  | l + 1, hl => by
    obtain ⟨N, hN⟩ := levels_on_chunk hp c l (by omega)
    refine ⟨N ++ ((List.range (l + 1)).reverse.flatMap fun s => stage p s fun j => (decide ((chunkPos hp c j).val &&& 2 ^ (l + 1) = 0)) == false), fun v => ?_⟩
    funext j
    rw [levelsNet_succ, Network.apply_append, Network.apply_append, ← hN v]
    unfold levelNet
    exact apply_flatMap_stage_chunkPos hp _ (fun s hs => by have := List.mem_range.mp (List.mem_reverse.mp hs); omega) _ _ c j

/-- The first `p` levels do what any sort of the chunks does that leaves the even chunks ascending and the odd ones
    descending. -/
theorem levels_eq {P p : ℕ} (hp : p ≤ P) (x u : Fin (2 ^ P) → α)
    (hu : ∀ c : Fin (2 ^ (P - p)), ∃ N : Network (2 ^ p), (fun j => u (chunkPos hp c j)) = Network.apply N fun j => x (chunkPos hp c j))
    (h0 : ∀ c : Fin (2 ^ (P - p)), c.val % 2 = 0 → Monotone fun j => u (chunkPos hp c j))
    (h1 : ∀ c : Fin (2 ^ (P - p)), c.val % 2 ≠ 0 → Antitone fun j => u (chunkPos hp c j)) :
    Network.apply (levelsNet P false p) x = u := by
  funext i
  have hi : i.val < 2 ^ (P - p) * 2 ^ p := by rw [← Nat.pow_add, Nat.sub_add_cancel hp]; exact i.isLt
  have e : i = chunkPos hp ⟨i.val / 2 ^ p, Nat.div_lt_of_lt_mul (by rw [Nat.mul_comm]; exact hi)⟩ ⟨i.val % 2 ^ p, Nat.mod_lt _ (Nat.two_pow_pos p)⟩ :=
    Fin.ext (Nat.div_add_mod' _ _).symm
  generalize (⟨i.val / 2 ^ p, Nat.div_lt_of_lt_mul (by rw [Nat.mul_comm]; exact hi)⟩ : Fin (2 ^ (P - p))) = c at e
  generalize (⟨i.val % 2 ^ p, Nat.mod_lt _ (Nat.two_pow_pos p)⟩ : Fin (2 ^ p)) = j at e
  subst e
  obtain ⟨N, hN⟩ := levels_on_chunk (α := α) hp c p (le_refl p)
  obtain ⟨M, hM⟩ := hu c
  have hl := sortNet_levels P false x p hp c
  refine congrFun (f := fun j => Network.apply (levelsNet P false p) x (chunkPos hp c j)) (g := fun j => u (chunkPos hp c j)) ?_ j
  by_cases hc : c.val % 2 = 0
  · have h := hl.2 (by rw [decide_eq_true hc]; rfl)
    have h' := h0 c hc
    rw [hN x] at h ⊢; rw [hM] at h' ⊢
    exact monotone_unique _ N M h h'
  · have h := hl.1 (by rw [decide_eq_false hc]; rfl)
    have h' := h1 c hc
    rw [hN x] at h ⊢; rw [hM] at h' ⊢
    exact antitone_unique _ N M h h'

end Cert.SortMath

end
-- ==== Proof.KernelIdeal.Column.lean ====
/-
The kernel's vector operations on one column of a block, over the extended reals: a compare-exchange of the block is a
stage of a bitonic network on every column, a block's sort is the network that sorts 1024 entries, up or down, and a
merge's last ten steps are the stages below 1024.
-/
module

public import proofs.«01_k».proof.Proof.KernelIdeal.Merge
public import proofs.«01_k».proof.Proof.SortMath
public import Idealize.ShloMosaic.PureOps.Ideal
public import Idealize.ShloMosaic.Lib.WordCmp
public import Idealize.ShloMosaic.Lib.Pipeline.Value

@[expose] public section

noncomputable section

namespace Cert.KernelIdeal.Run

open Cert.KernelIdeal Cert.KernelIdeal.Gen Cert.SortMath

open Idealize.ShloMosaic Idealize.ShloMosaic.SortNet

/-- Row `r` and column `q` of a block, -/
def atB (r : Fin (2 ^ 10)) (q : Fin 256) : S1024x256.Idx := fun a => match a with
  | ⟨0, _⟩ => r
  | ⟨1, _⟩ => q
/-- and row `r` of a mask. -/
def atM (r : Fin (2 ^ 10)) : S1024x1.Idx := fun a => match a with
  | ⟨0, _⟩ => r
  | ⟨1, _⟩ => (0 : Fin 1)

/-- Column `q` of a block. -/
def colB (q : Fin 256) (v : Blk Ideal) : Fin (2 ^ 10) → EReal := fun r => v (atB r q)

/-- The mask of bit `s` holds the rows where it is clear. -/
theorem bitV_at {s : ℕ} (hs : s ≤ 10) (r : Fin (2 ^ 10)) : bitV (2 ^ s) (atM r) = BitVec.ofBool (!r.val.testBit s) := by
  have hr : r.val < 2 ^ 10 := r.isLt
  have h2 : 2 ^ s ≤ 2 ^ 10 := Nat.pow_le_pow_right (by decide) hs
  have e : bitV (2 ^ s) (atM r) = IntOp.cmpi .eq (BitVec.ofNat 32 (0 * 1024 + r.val) &&& BitVec.ofNat 32 (2 ^ s)) 0#32 := rfl
  rw [e, WordCmp.cmpi_eq_eq_toNat, BitVec.toNat_and, BitVec.toNat_ofNat, BitVec.toNat_ofNat, Nat.zero_mul, Nat.zero_add,
    Nat.mod_eq_of_lt (by omega), Nat.mod_eq_of_lt (by omega)]
  congr 1
  cases hb : r.val.testBit s
  · exact decide_eq_true ((and_two_pow_eq_zero_iff_testBit _ _).mpr hb)
  · refine decide_eq_false fun h => ?_
    rw [(and_two_pow_eq_zero_iff_testBit _ _).mp h] at hb
    exact absurd hb (by decide)

theorem spread_at (m : IVec S1024x1 1) (r : Fin (2 ^ 10)) (q : Fin 256) : spread m (atB r q) = m (atM r) := by
  unfold spread
  rw [shapeCast_self]
  exact broadcastTo_apply m _ _ _ fun a => match a with
    | ⟨0, _⟩ => rfl
    | ⟨1, _⟩ => rfl

section
variable {F : FTy → Type} [FloatOps F]

theorem upV_at (j : ℕ) (h : j ≤ 1024) (v : Blk F) (r r' : Fin (2 ^ 10)) (q : Fin 256) (e : r'.val = r.val + j) :
    upV j h v (atB r q) = v (atB r' q) := by
  have hr : r.val < 1024 - j := by have h' : r'.val < 1024 := r'.isLt; omega
  unfold upV stack
  refine (concatenate_pair_apply_left (s₁ := ⟨2, ![1024 - j, 256]⟩) (s₂ := ⟨2, ![j, 256]⟩) _ _ _ _ (atB r q) rfl
    (fun a => match a with | ⟨0, _⟩ => ⟨r.val, hr⟩ | ⟨1, _⟩ => q) (fun b => match b with | ⟨0, _⟩ => rfl | ⟨1, _⟩ => rfl)).trans ?_
  unfold rowsAt extractStridedSlice
  refine congrArg v (funext fun a => Fin.ext ?_)
  match a with
  | ⟨0, _⟩ => show j + r.val = r'.val; omega
  | ⟨1, _⟩ => show 0 + q.val = q.val; omega

theorem dnV_at (j : ℕ) (h : j ≤ 1024) (v : Blk F) (r r' : Fin (2 ^ 10)) (q : Fin 256) (e : r.val = r'.val + j) :
    dnV j h v (atB r q) = v (atB r' q) := by
  have hr : r'.val < 1024 - j := by have h' : r.val < 1024 := r.isLt; omega
  unfold dnV stack
  refine (concatenate_pair_apply_right (t := S1024x256) (s₁ := ⟨2, ![j, 256]⟩) (s₂ := ⟨2, ![1024 - j, 256]⟩) (0 : Fin 2) _ _ _ (atB r q) rfl rfl
    (fun a => match a with | ⟨0, _⟩ => ⟨r'.val, hr⟩ | ⟨1, _⟩ => q)
    (fun b hb => match b, hb with | ⟨0, _⟩, hb => absurd rfl hb | ⟨1, _⟩, _ => rfl) (show r'.val + j = r.val from e.symm)).trans ?_
  unfold rowsAt extractStridedSlice
  refine congrArg v (funext fun a => Fin.ext ?_)
  match a with
  | ⟨0, _⟩ => show 0 + r'.val = r'.val; omega
  | ⟨1, _⟩ => show 0 + q.val = q.val; omega

/-- A row's partner at distance `2 ^ s`. -/
theorem partnerV_at {s : ℕ} (hs : s < 10) (h : 2 ^ s ≤ 1024) (v : Blk F) (r : Fin (2 ^ 10)) (q : Fin 256) :
    partnerV (2 ^ s) h v (atB r q) = v (atB (partner 10 s r) q) := by
  unfold partnerV
  rw [WordCmp.select_at, spread_at, bitV_at (by omega), WordCmp.select_ofBool]
  by_cases hb : r.val &&& 2 ^ s = 0
  · rw [(and_two_pow_eq_zero_iff_testBit _ _).mp hb]
    exact upV_at _ h v r _ q (by rw [partner_val hs, xor_two_pow_of_clear _ _ hb])
  · rw [testBit_of_set hb]
    refine dnV_at _ h v r _ q ?_
    have h1 := partner_and_of_set hs r hb
    have h2 := partner_partner hs r
    rw [← xor_two_pow_of_clear _ _ h1, ← partner_val hs, h2]

end

/-- A compare-exchange of a block is a stage on each of its columns. -/
theorem cmpx_col {s : ℕ} (hs : s < 10) (h : 2 ^ s ≤ 1024) (asc : IVec S1024x1 1) (w : Fin (2 ^ 10) → Bool)
    (hw : ∀ r, w (partner 10 s r) = w r) (ha : ∀ r, asc (atM r) = BitVec.ofBool (!w r)) (v : Blk Ideal) (q : Fin 256) :
    colB q (cmpx (2 ^ s) h asc v) = Network.apply (stage 10 s w) (colB q v) := by
  funext r
  rw [stage_at hs w hw]
  unfold colB cmpx
  rw [WordCmp.select_at, spread_at]
  have e : keepMin (2 ^ s) asc (atM r) = BitVec.ofBool (decide (r.val.testBit s = w r)) := by
    unfold keepMin
    rw [WordCmp.xori_at, WordCmp.xori_at, bitV_at (by omega), ha]
    show IntOp.xori (IntOp.xori (BitVec.ofBool _) (BitVec.ofBool _)) (BitVec.ofBool true) = _
    rw [WordCmp.xori_ofBool, WordCmp.xori_ofBool]
    congr 1
    cases r.val.testBit s <;> cases w r <;> rfl
  rw [e, WordCmp.select_decide]
  have h1 : minimumf v (partnerV (2 ^ s) h v) (atB r q) = min (v (atB r q)) (v (atB (partner 10 s r) q)) :=
    congrArg (fun y : EReal => min (v (atB r q)) y) (partnerV_at hs h v r q)
  have h2 : maximumf v (partnerV (2 ^ s) h v) (atB r q) = max (v (atB r q)) (v (atB (partner 10 s r) q)) :=
    congrArg (fun y : EReal => max (v (atB r q)) y) (partnerV_at hs h v r q)
  rw [h1, h2]

/-- Compare-exchanges at falling distances are the stages. -/
theorem steps_col (asc : IVec S1024x1 1) (w : Fin (2 ^ 10) → Bool) (ha : ∀ r, asc (atM r) = BitVec.ofBool (!w r)) (q : Fin 256) :
    ∀ (n : ℕ) (hn : n ≤ 10) (hw : ∀ s, s < n → ∀ r, w (partner 10 s r) = w r) (v : Blk Ideal),
      colB q (steps asc n hn v) = Network.apply ((List.range n).reverse.flatMap fun s => stage 10 s w) (colB q v)
  | 0, _, _, _ => rfl
  | n + 1, hn, hw, v => by
    rw [List.range_succ, List.reverse_append, List.reverse_singleton, List.singleton_append, List.flatMap_cons, Network.apply_append,
      ← cmpx_col (show n < 10 by omega) (Nat.pow_le_pow_right (n := 2) (by decide) (show n ≤ 10 by omega)) asc w (hw n (by omega)) ha v q]
    exact steps_col asc w ha q n (by omega) (fun s hs => hw s (by omega)) _

/-- The ten last steps of a merge, on a column. -/
theorem chunkSort_col (desc : Bool) (up : BitVec 1) (hu : up = BitVec.ofBool (!desc)) (v : Blk Ideal) (q : Fin 256) :
    colB q (chunkSort up v) = Network.apply ((List.range 10).reverse.flatMap fun s => stage 10 s fun _ => desc) (colB q v) := by
  subst hu
  refine steps_col _ (fun _ => desc) (fun r => ?_) q 10 (le_refl 10) (fun _ _ _ => rfl) v
  unfold ascAll
  exact broadcastTo_apply _ _ _ (atM r) fun a => match a with
    | ⟨0, _⟩ => rfl
    | ⟨1, _⟩ => rfl

/-- A bit above the distance is the partner's too. -/
theorem partner_bit {p s t : ℕ} (hs : s < p) (ht : s ≠ t) (r : Fin (2 ^ p)) : (partner p s r).val &&& 2 ^ t = 0 ↔ r.val &&& 2 ^ t = 0 := by
  rw [and_two_pow_eq_zero_iff_testBit, and_two_pow_eq_zero_iff_testBit, partner_val hs, Nat.testBit_xor, Nat.testBit_two_pow,
    decide_eq_false ht, Bool.xor_false]

theorem levels_col (desc : Bool) (flip : BitVec 1) (hf : flip = BitVec.ofBool desc) (v : Blk Ideal) (q : Fin 256) :
    ∀ (l : ℕ) (hl : l ≤ 10), colB q (levels flip l hl v) = Network.apply (levelsNet 10 desc l) (colB q v)
  | 0, _ => rfl
  | l + 1, hl => by
    rw [levelsNet_succ, Network.apply_append, ← levels_col desc flip hf v q l (by omega)]
    unfold levelNet
    refine steps_col _ _ (fun r => ?_) q (l + 1) hl (fun s hs r => ?_) _
    · unfold ascV
      rw [WordCmp.xori_at, bitV_at (by omega), hf]
      show IntOp.xori (BitVec.ofBool _) (BitVec.ofBool _) = _
      rw [WordCmp.xori_ofBool]
      congr 1
      by_cases hb : r.val &&& 2 ^ (l + 1) = 0
      · rw [decide_eq_true hb, (and_two_pow_eq_zero_iff_testBit _ _).mp hb]; cases desc <;> rfl
      · rw [decide_eq_false hb, testBit_of_set hb]; cases desc <;> rfl
    · rw [decide_eq_decide.mpr (partner_bit (show s < 10 by omega) (show s ≠ l + 1 by omega) r)]

/-- A block's sort is the network that sorts each column, down where the flip is set. -/
theorem blockSort_col (desc : Bool) (flip : BitVec 1) (hf : flip = BitVec.ofBool desc) (v : Blk Ideal) (q : Fin 256) :
    colB q (blockSort flip v) = Network.apply (sortNet 10 desc) (colB q v) :=
  levels_col desc flip hf v q 10 (le_refl 10)

end Cert.KernelIdeal.Run

end
-- ==== Proof.KernelIdeal.Whole.lean ====
/-
The merge of the gathered blocks on one column, over the extended reals: every pass of the merge is a stage on the
column's 32768 entries, so that the block sorts and the merge together sort the column.
-/
module

public import proofs.«01_k».proof.Proof.KernelIdeal.Column

@[expose] public section

noncomputable section

namespace Cert.KernelIdeal.Run

open Cert.KernelIdeal Cert.KernelIdeal.Gen Cert.SortMath

open Idealize.ShloMosaic Idealize.ShloMosaic.SortNet

/-- Row `i` and column `q` of the gathered buffer. -/
def atG (i : Fin (2 ^ 15)) (q : Fin 256) : S32768x256.Idx := fun a => match a with
  | ⟨0, _⟩ => i
  | ⟨1, _⟩ => q

/-- Column `q` of the gathered buffer. -/
def colG (q : Fin 256) (f : GBuf Ideal) : Fin (2 ^ 15) → EReal := fun i => f (atG i q)

theorem ten_le : 10 ≤ 15 := by decide
/-- Row `r` of block `b`. -/
abbrev rowOf (b : Fin (2 ^ (15 - 10))) (r : Fin (2 ^ 10)) : Fin (2 ^ 15) := chunkPos ten_le b r

theorem exists_rowOf (i : Fin (2 ^ 15)) : ∃ b r, i = rowOf b r :=
  ⟨⟨i.val / 2 ^ 10, Nat.div_lt_of_lt_mul i.isLt⟩, ⟨i.val % 2 ^ 10, Nat.mod_lt _ (by decide)⟩, Fin.ext (Nat.div_add_mod' _ _).symm⟩

/-- A column of a block, as the whole column's rows. -/
theorem rd_col (b : Fin 32) (f : GBuf Ideal) (q : Fin 256) (r : Fin (2 ^ 10)) : colB q (rd b f) r = colG q f (rowOf b r) := by
  unfold colB colG
  rw [rd_apply]
  refine congrArg f (funext fun a => Fin.ext ?_)
  rw [Rect.emb_apply]
  match a with
  | ⟨0, _⟩ => show 1024 * b.val + 1 * r.val = b.val * 2 ^ 10 + r.val; omega
  | ⟨1, _⟩ => show 0 + 1 * q.val = q.val; omega

/-! ## Loops whose trips touch different blocks -/

section
variable {F : FTy → Type} [FloatOps F]

/-- A loop whose trip `k` changes only the blocks with key `k`, from those blocks alone: each block is left as its own
    trip leaves it. -/
theorem iter_apart (step : ℕ → GBuf F → GBuf F) (key : Fin 32 → ℕ) (n₀ : ℕ)
    (hoff : ∀ k < n₀, ∀ f c, key c ≠ k → rd c (step k f) = rd c f)
    (hon : ∀ k < n₀, ∀ f g, (∀ c, key c = k → rd c f = rd c g) → ∀ c, key c = k → rd c (step k f) = rd c (step k g)) (f : GBuf F) :
    ∀ n ≤ n₀, ∀ c, rd c (iter step f n) = if key c < n then rd c (step (key c) f) else rd c f
  | 0, _, c => by rw [if_neg (Nat.not_lt_zero _)]; rfl
  | n + 1, hn, c => by
    have ih := iter_apart step key n₀ hoff hon f n (by omega)
    show rd c (step n (iter step f n)) = _
    by_cases hc : key c = n
    · rw [if_pos (by omega), hc]
      exact hon n (by omega) _ _ (fun c' hc' => by rw [ih c', if_neg (by omega)]) c hc
    · rw [hoff n (by omega) _ c hc, ih c]
      by_cases h : key c < n
      · rw [if_pos h, if_pos (by omega)]
      · rw [if_neg h, if_neg (by omega)]

/-- A chunk pass sorts every block. -/
theorem rd_chunkLoop (mm : ℕ) (f : GBuf F) (c : Fin 32) : rd c (chunkLoop mm f) = chunkSort (upBit mm c.val) (rd c f) := by
  have hb : ∀ c : Fin 32, bno c.val = c := fun c => Fin.ext (Nat.mod_eq_of_lt c.isLt)
  have h := iter_apart (chunkTrip mm) (fun c : Fin 32 => c.val) 32
    (fun k hk f c hc => by
      unfold chunkTrip
      exact rd_upd_ne (fun e => hc (by rw [e]; exact Nat.mod_eq_of_lt hk)) _ _)
    (fun k hk f g hfg c hc => by
      subst hc
      unfold chunkTrip
      rw [hb, rd_upd_self, rd_upd_self, hfg c rfl]) f 32 (le_refl 32) c
  unfold chunkLoop
  rw [h, if_pos c.isLt]
  unfold chunkTrip
  rw [hb, rd_upd_self]

/-- The pair of block `c` at a distance of `2 ^ s` blocks. -/
def pairKey (s : ℕ) (c : Fin 32) : ℕ := c.val / 2 ^ (s + 1) * 2 ^ s + c.val % 2 ^ s

/-- The pairs at a distance are numbered 0 to 15, and a pair's blocks are the ones with its number, -/
theorem pair_blocks : ∀ (s : Fin 5) (k : Fin 16), pairKey s.val (bno (pairLow s.val k.val)) = k.val
    ∧ pairKey s.val (bno (pairLow s.val k.val + 2 ^ s.val)) = k.val ∧ bno (pairLow s.val k.val) ≠ bno (pairLow s.val k.val + 2 ^ s.val) := by
  decide +kernel
/-- a block with bit `s` clear being the lower of its pair, one with it set the upper. -/
theorem block_pair : ∀ (s : Fin 5) (c : Fin 32), pairKey s.val c < 16 ∧ pairLow s.val (pairKey s.val c) < 32
    ∧ (c.val.testBit s.val = false → bno (pairLow s.val (pairKey s.val c)) = c ∧ bno (pairLow s.val (pairKey s.val c) + 2 ^ s.val) = partner 5 s.val c)
    ∧ (c.val.testBit s.val = true → bno (pairLow s.val (pairKey s.val c)) = partner 5 s.val c ∧ bno (pairLow s.val (pairKey s.val c) + 2 ^ s.val) = c)
    ∧ ∀ t : Fin 6, s.val < t.val → (pairLow s.val (pairKey s.val c)).testBit t.val = c.val.testBit t.val := by
  decide +kernel

/-- A pair pass leaves each block its part of the compare-exchange with its partner. -/
theorem rd_pairLoop (mm s : ℕ) (hs : s ≤ mm) (hm : mm < 5) (f : GBuf F) (c : Fin 32) :
    rd c (pairLoop mm s f) = Scalar.select (BitVec.ofBool (decide (c.val.testBit s = c.val.testBit (mm + 1))))
      (minimumf (rd (if c.val.testBit s then partner 5 s c else c) f) (rd (if c.val.testBit s then c else partner 5 s c) f))
      (maximumf (rd (if c.val.testBit s then partner 5 s c else c) f) (rd (if c.val.testBit s then c else partner 5 s c) f)) := by
  have hP := fun k hk => pair_blocks ⟨s, by omega⟩ ⟨k, hk⟩
  obtain ⟨h16, h32, hlo, hhi, hbit⟩ := block_pair ⟨s, by omega⟩ c
  dsimp only at hP h16 h32 hlo hhi hbit
  have h := iter_apart (pairTrip mm s) (pairKey s) 16
    (fun k hk f c hc => by
      obtain ⟨k1, k2, -⟩ := hP k hk
      unfold pairTrip
      rw [rd_upd_ne (fun e => hc (by rw [e]; exact k2)), rd_upd_ne (fun e => hc (by rw [e]; exact k1))])
    (fun k hk f g hfg c hc => by
      obtain ⟨k1, k2, -⟩ := hP k hk
      unfold pairTrip
      dsimp only
      rw [hfg _ k1, hfg _ k2]
      by_cases e2 : c = bno (pairLow s k + 2 ^ s)
      · rw [e2, rd_upd_self, rd_upd_self]
      · rw [rd_upd_ne e2, rd_upd_ne e2]
        by_cases e1 : c = bno (pairLow s k)
        · rw [e1, rd_upd_self, rd_upd_self]
        · rw [rd_upd_ne e1, rd_upd_ne e1]; exact hfg c hc) f 16 (le_refl 16) c
  have hu : upBit mm (pairLow s (pairKey s c)) = BitVec.ofBool (!c.val.testBit (mm + 1)) := by
    have hb : (pairLow s (pairKey s c)).testBit (mm + 1) = c.val.testBit (mm + 1) := hbit ⟨mm + 1, by omega⟩ (by show s < mm + 1; omega)
    unfold upBit
    rw [hb]
    cases c.val.testBit (mm + 1) <;> rfl
  unfold pairLoop
  rw [h, if_pos h16]
  unfold pairTrip
  dsimp only
  rw [hu]
  cases hb : c.val.testBit s
  · obtain ⟨e1, e2⟩ := hlo hb
    have hne := (hP _ h16).2.2
    rw [e1, e2] at hne ⊢
    rw [rd_upd_ne hne, rd_upd_self]
    cases c.val.testBit (mm + 1) <;> rfl
  · obtain ⟨e1, e2⟩ := hhi hb
    rw [e1, e2, rd_upd_self]
    cases c.val.testBit (mm + 1) <;> rfl

end

/-! ## The passes as stages -/

/-- The direction of level `l` at a position, as the network names it. -/
abbrev downAt (l : ℕ) (i : Fin (2 ^ 15)) : Bool := (decide (i.val &&& 2 ^ (l + 1) = 0)) == false

theorem downAt_row (mm : ℕ) (b : Fin 32) (r : Fin (2 ^ 10)) : downAt (10 + mm) (rowOf b r) = b.val.testBit (mm + 1) := by
  have h : (rowOf b r).val.testBit (10 + mm + 1) = b.val.testBit (mm + 1) := by
    rw [chunkPos_testBit_high ten_le b r (show 10 ≤ 10 + mm + 1 by omega)]
    congr 1; omega
  unfold downAt
  rw [← h]
  by_cases hb : (rowOf b r).val &&& 2 ^ (10 + mm + 1) = 0
  · rw [decide_eq_true hb, (and_two_pow_eq_zero_iff_testBit _ _).mp hb]; rfl
  · rw [decide_eq_false hb, testBit_of_set hb]; rfl

theorem pairLoop_col (mm s : ℕ) (hs : s ≤ mm) (hm : mm < 5) (f : GBuf Ideal) (q : Fin 256) :
    colG q (pairLoop mm s f) = Network.apply (stage 15 (10 + s) (downAt (10 + mm))) (colG q f) := by
  funext i
  obtain ⟨b, r, rfl⟩ := exists_rowOf i
  rw [stage_at (show 10 + s < 15 by omega) _ (fun i => by
      unfold downAt
      rw [decide_eq_decide.mpr (partner_bit (show 10 + s < 15 by omega) (show 10 + s ≠ 10 + mm + 1 by omega) i)]),
    downAt_row, chunkPos_testBit_high ten_le b r (show 10 ≤ 10 + s by omega), partner_chunkPos_high ten_le (show 10 ≤ 10 + s by omega) (show 10 + s < 15 by omega),
    Nat.add_sub_cancel_left, ← rd_col b, rd_pairLoop mm s hs hm f b]
  have e0 := rd_col b f q r
  have e1 := rd_col (partner 5 s b) f q r
  rw [← e0]
  refine Eq.trans ?_ (congrArg (fun y => if b.val.testBit s = b.val.testBit (mm + 1) then min (colB q (rd b f) r) y else max (colB q (rd b f) r) y) e1)
  rw [WordCmp.select_decide]
  cases b.val.testBit s
  · split
    · rfl
    · rfl
  · split
    · exact min_comm (α := EReal) _ _
    · exact max_comm (α := EReal) _ _

theorem chunkLoop_col (mm : ℕ) (f : GBuf Ideal) (q : Fin 256) :
    colG q (chunkLoop mm f) = Network.apply ((List.range 10).reverse.flatMap fun s => stage 15 s (downAt (10 + mm))) (colG q f) := by
  funext i
  obtain ⟨b, r, rfl⟩ := exists_rowOf i
  rw [apply_flatMap_stage_chunkPos ten_le _ (fun s hs => List.mem_range.mp (List.mem_reverse.mp hs)),
    show (fun j => downAt (10 + mm) (rowOf b j)) = fun _ => b.val.testBit (mm + 1) from funext fun j => downAt_row mm b j,
    ← rd_col b, rd_chunkLoop, chunkSort_col (b.val.testBit (mm + 1)) _ (by unfold upBit; cases b.val.testBit (mm + 1) <;> rfl)]
  exact congrArg (fun v => Network.apply _ v r) (funext fun j => rd_col b f q j)

theorem pairLoops_col (mm : ℕ) (hm : mm < 5) (q : Fin 256) : ∀ (n : ℕ) (hn : n ≤ mm + 1) (f : GBuf Ideal),
    colG q (pairLoops mm n f) = Network.apply (((List.range n).reverse.map (10 + ·)).flatMap fun s => stage 15 s (downAt (10 + mm))) (colG q f)
  | 0, _, _ => rfl
  | n + 1, hn, f => by
    rw [List.range_succ, List.reverse_append, List.reverse_singleton, List.singleton_append, List.map_cons, List.flatMap_cons, Network.apply_append,
      ← pairLoop_col mm n (by omega) hm f q]
    exact pairLoops_col mm hm q n (by omega) _

/-- A merge is a level of the network. -/
theorem mergeLevel_col (mm : ℕ) (hm : mm < 5) (f : GBuf Ideal) (q : Fin 256) :
    colG q (mergeLevel mm f) = Network.apply (levelNet 15 false (10 + mm)) (colG q f) := by
  have e : (List.range (10 + mm + 1)).reverse = (List.range (mm + 1)).reverse.map (10 + ·) ++ (List.range 10).reverse := by
    rw [Nat.add_assoc, List.range_add, List.reverse_append, List.map_reverse]
  unfold mergeLevel levelNet
  rw [chunkLoop_col, pairLoops_col mm hm q (mm + 1) (le_refl _), ← Network.apply_append, ← List.flatMap_append, e]

/-- A loop of one trip more runs that trip last. -/
theorem iter_succ {F : FTy → Type} [FloatOps F] (step : ℕ → GBuf F → GBuf F) (f : GBuf F) (n : ℕ) : iter step f (n + 1) = step n (iter step f n) := rfl
/-- A loop of no trips leaves everything. -/
theorem iter_zero {F : FTy → Type} [FloatOps F] (step : ℕ → GBuf F → GBuf F) (f : GBuf F) : iter step f 0 = f := rfl

/-- The merges are the levels from 10 on. -/
theorem merges_col (x : Fin (2 ^ 15) → EReal) (f : GBuf Ideal) (q : Fin 256) (hf : Network.apply (levelsNet 15 false 10) x = colG q f) :
    ∀ n ≤ 5, colG q (iter mergeLevel f n) = Network.apply (levelsNet 15 false (10 + n)) x
  | 0, _ => by rw [iter_zero, Nat.add_zero]; exact hf.symm
  | n + 1, hn => by
    have ih := merges_col x f q hf n (by omega)
    rw [iter_succ, mergeLevel_col n (by omega), ih, ← Network.apply_append, ← levelsNet_succ, Nat.add_assoc]

/-- Blocks sorted up and down by turns and merged: each column of the gathered blocks, sorted. -/
theorem sorted_col (flip : Fin 32 → BitVec 1) (hflip : ∀ b, flip b = BitVec.ofBool (b.val % 2 != 0)) (x : Fin 32 → Blk Ideal) (q : Fin 256) :
    colG q (mergeAll (gath fun b => blockSort (flip b) (x b))) = Network.apply (sortNet 15 false) (colG q (gath x)) := by
  have hx : ∀ b : Fin 32, (fun r => colG q (gath x) (rowOf b r)) = colB q (x b) := fun b => funext fun r => by
    rw [← rd_col b, rd_gath]
  have hu : ∀ b : Fin 32, (fun r => colG q (gath fun b => blockSort (flip b) (x b)) (rowOf b r)) = Network.apply (sortNet 10 (b.val % 2 != 0)) (colB q (x b)) :=
    fun b => funext fun r => by rw [← rd_col b, rd_gath, blockSort_col _ _ (hflip b)]
  unfold mergeAll
  rw [sortNet_eq_levelsNet]
  refine merges_col (colG q (gath x)) _ q ?_ 5 (le_refl 5)
  refine levels_eq ten_le _ _ (fun c => ⟨sortNet 10 (c.val % 2 != 0), ?_⟩) (fun c hc => ?_) (fun c hc => ?_)
  · exact (hu c).trans (congrArg _ (hx c).symm)
  · have h := hu c
    rw [show (c.val % 2 != 0) = false by simp [hc]] at h
    exact Eq.mpr (congrArg Monotone h) (sortNet_apply_monotone 10 _)
  · have h := hu c
    rw [show (c.val % 2 != 0) = true from bne_iff_ne.mpr hc] at h
    exact Eq.mpr (congrArg Antitone h) (sortNet_apply_antitone 10 _)

end Cert.KernelIdeal.Run

end
-- ==== Proof.RefSort.lean ====
/-
What the reference computes, over the extended reals: its sort leaves each column ascending and a rearrangement of what it
was, so the column is what any network that sorts makes of it.
-/
module

public import proofs.«01_k».proof.Proof.Gen.ReferenceIdeal
public import proofs.«01_k».proof.Proof.SortMath
public import Idealize.ShloMosaic.PureOps.Ideal
public import Idealize.ShloMosaic.Lib.WordCmp
public import Idealize.ShloMosaic.Lib.SortFacts

@[expose] public section

noncomputable section

namespace Cert.ReferenceIdeal.Sorted

open Cert.ReferenceIdeal Cert.SortMath

open Idealize.ShloMosaic Idealize.ShloMosaic.SortNet

/-- The places of a stable sort by `<`, read from the vector: ascending, -/
theorem places_monotone {α : Type*} [LinearOrder α] {n : ℕ} (v : Fin n → α) :
    Monotone fun i => v (sortedFrom (fun k k' => decide (v k < v k')) i) := fun i j hij => by
  rcases Nat.lt_or_ge i.val j.val with h | h
  · exact not_lt.mp (of_decide_eq_false (sortedFrom_noInversion (fun k k' => decide (v k < v k')) (fun k k' => decide (v k < v k'))
      (fun a b hab => decide_eq_false (not_lt.mpr (le_of_lt (of_decide_eq_true hab)))) (fun a b hab => hab)
      (fun a b c hab hbc => decide_eq_false (not_lt.mpr ((not_lt.mp (of_decide_eq_false hbc)).trans (not_lt.mp (of_decide_eq_false hab)))))
      i j h))
  · rw [Fin.ext (Nat.le_antisymm hij h)]

/-- and a rearrangement of it; so what a network that sorts leaves. -/
theorem places_eq {α : Type*} [LinearOrder α] {p : ℕ} (v : Fin (2 ^ p) → α) :
    (fun i => v (sortedFrom (fun k k' => decide (v k < v k')) i)) = Network.apply (sortNet p false) v := by
  obtain ⟨σ, hσ⟩ := Network.exists_perm (sortNet p false) v
  let π : Equiv.Perm (Fin (2 ^ p)) := Equiv.ofBijective (sortedFrom fun k k' => decide (v k < v k'))
    ⟨sortedFrom_injective _, sortedFrom_surjective _⟩
  refine ascending_unique _ _ (π.trans σ.symm) (funext fun i => ?_) (places_monotone v) (sortNet_apply_monotone p v)
  rw [hσ]
  show v (π i) = v (σ (σ.symm (π i)))
  rw [Equiv.apply_symm_apply]

/-- The reference's comparator is `<`. -/
theorem comparator_lt (l r : EReal) : comparator_f32_d0 (F := Ideal) l r = BitVec.ofBool (decide (l < r)) := by
  have zero_keeps : ∀ a z : EReal, Scalar.select (BitVec.ofBool (decide (a = z))) z a = a := fun a z => by
    rw [WordCmp.select_decide]
    split
    · rename_i h; exact h.symm
    · rfl
  have self_keeps : ∀ a y z : EReal, Scalar.select (BitVec.ofBool (decide (a ≠ a))) y z = z := fun a y z => by
    rw [WordCmp.select_decide, if_neg (fun h => h rfl)]
  have key : ∀ a y z : EReal, Scalar.select (BitVec.ofBool (decide (a ≠ a))) y (Scalar.select (BitVec.ofBool (decide (a = z))) z a) = a :=
    fun a y z => (self_keeps a _ _).trans (zero_keeps a z)
  exact congrArg₂ (fun a b : EReal => BitVec.ofBool (decide (a < b))) (key l _ _) (key r _ _)

/-- Row `i` and column `q` of the array. -/
def atR (i : Fin (2 ^ 15)) (q : Fin 256) : S32768x256.Idx := fun a => match a with
  | ⟨0, _⟩ => i
  | ⟨1, _⟩ => q

/-- Moving along the rows from a place of a column stays in the column. -/
theorem atR_along (i k : Fin (2 ^ 15)) (q : Fin 256) : (atR i q).along (s := S32768x256) (0 : Fin 2) k = atR k q :=
  funext fun a => match a with
  | ⟨0, _⟩ => rfl
  | ⟨1, _⟩ => rfl

/-- The reference's sort, a column at a time. -/
theorem sort_col (x : S32768x256.Idx → EReal) (q : Fin 256) :
    (fun i => Host.sort S32768x256 0 (comparator_f32_d0 (F := Ideal)) x (atR i q))
      = Network.apply (sortNet 15 false) fun i => x (atR i q) := by
  rw [← places_eq]
  funext i
  have e : (fun k k' : Fin (2 ^ 15) => comparator_f32_d0 (F := Ideal) (x ((atR i q).along (s := S32768x256) (0 : Fin 2) k)) (x ((atR i q).along (s := S32768x256) (0 : Fin 2) k')) == 1#1)
      = fun k k' => decide (x (atR k q) < x (atR k' q)) := funext fun k => funext fun k' => by
    rw [atR_along, atR_along, comparator_lt]
    cases decide (x (atR k q) < x (atR k' q)) <;> rfl
  unfold Host.sort
  rw [dif_pos (show 0 < S32768x256.rank by decide)]
  refine Eq.trans ?_ (congrArg (fun B : Fin (2 ^ 15) → Fin (2 ^ 15) → Bool => x (atR (sortedFrom B i) q)) e)
  exact congrArg x (atR_along i _ q)

end Cert.ReferenceIdeal.Sorted

end
-- ==== Proof.Equal.lean ====
/-
The equation: over the extended reals each device's part of the kernel's result is its block of the reference's.
-/
module

public import proofs.«01_k».proof.Proof.KernelIdeal.Launch
public import proofs.«01_k».proof.Proof.KernelIdeal.Whole
public import proofs.«01_k».proof.Proof.RefSort
public import Idealize.ShloMosaic.Lib.Layout

@[expose] public section

noncomputable section

namespace Cert.Equal

open Cert.KernelIdeal Cert.KernelIdeal.Gen Cert.KernelIdeal.Run

open Idealize.ShloMosaic Idealize.ShloMosaic.SortNet

/-- What the reference's run leaves, of the array it is given: its columns sorted, by way of a wider float and back. -/
abbrev refOut (X : Cert.ReferenceIdeal.S32768x256.Idx → EReal) : Cert.ReferenceIdeal.S32768x256.Idx → EReal :=
  truncf (F := Ideal) .bf16 (Host.sort Cert.ReferenceIdeal.S32768x256 0 (Cert.ReferenceIdeal.comparator_f32_d0 (F := Ideal))
    (extf (F := Ideal) .f32 X Cert.ReferenceIdeal.Gen.bitsLt_bf16_f32)) Cert.ReferenceIdeal.Gen.bitsLt_bf16_f32

/-- A place of a device's block, as a row and a column of the whole array. -/
theorem idx_row (h : Layout.Tiles S1024x256 S32768x256 0 32) (c : Fin 32) (r : Fin (2 ^ 10)) (q : Fin 256) :
    h.idx c (atB r q) = Cert.ReferenceIdeal.Sorted.atR (rowOf c r) q := funext fun a => Fin.ext (match a with
  | ⟨0, _⟩ => rfl
  | ⟨1, _⟩ => rfl)

/-- A place of a block is a row and a column. -/
theorem eq_atB (y : S1024x256.Idx) : y = atB (y 0) (y 1) := funext fun a => match a with
  | ⟨0, _⟩ => rfl
  | ⟨1, _⟩ => rfl

/-- The kernel turns the sort of the odd devices round. -/
theorem flipOf_odd : ∀ b : Fin 32, flipOf b = BitVec.ofBool (b.val % 2 != 0) := by decide +kernel

section
variable {F : FTy → Type} [FloatOps F]
variable (m : (ℓ : Loc nD τ sig) → Buf (Elt F) ℓ) (ρ : Dev nD → PrngReg)

/-- What the body finds in its first operand is the device's argument. -/
theorem xstg_arg (c : Dev nD) : xstg m ρ c = m (c.tc.loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) (m (c.tc.loc main_arg0))

end

variable (m : (ℓ : Loc nD τ sig) → Buf (Elt Ideal) ℓ) (ρ : Dev nD → PrngReg)

/-- Where each device's argument is its block of an array, its result is its block of what the reference makes of the
    array. -/
theorem out_eq (X : Cert.ReferenceIdeal.S32768x256.Idx → EReal)
    (hX : ∀ c : Dev nD, m (c.tc.loc main_arg0) = Layout.block S1024x256 S32768x256 0 32 c X) (c : Dev nD) :
    outAt m ρ c = Layout.block S1024x256 S32768x256 0 32 c (refOut X) := by
  have hcol : ∀ q, colG q (gath (xstg m ρ)) = fun i => X (Cert.ReferenceIdeal.Sorted.atR i q) := fun q => funext fun i => by
    obtain ⟨b, r, rfl⟩ := exists_rowOf i
    rw [← rd_col b, rd_gath, xstg_arg, hX b]
    exact congrArg X (idx_row _ b r q)
  funext y
  rw [eq_atB y]
  have h := congrFun (sorted_col flipOf flipOf_odd (xstg m ρ) (y 1)) (rowOf c (y 0))
  have h := h.trans (congrFun ((congrArg (Network.apply (sortNet 15 false)) (hcol (y 1))).trans (Cert.ReferenceIdeal.Sorted.sort_col X (y 1)).symm) (rowOf c (y 0)))
  have h := (rd_col c (mergeAll (gath fun b => blockSort (flipOf b) (xstg m ρ b))) (y 1) (y 0)).trans h
  exact h.trans (congrArg (refOut X) (idx_row (by decide) c (y 0) (y 1)).symm)

end Cert.Equal

end
-- ==== Proof.lean ====
/-
The certificate's claims. The kernel's run is proved at any floats in Proof/Kernel and Proof/KernelIdeal (a program and
its idealization are separate texts): the ring's cells (Ring), one hop (Hop), the block sort and the merge as functions
(Stage, Merge), the loops that compute them (Trips, Loops), the body (Sort, Rest, Body) and the launch (Launch). Over the
extended reals the functions sort each column (SortMath, Column, Whole), so does the reference (RefSort), and the results
are equal (Equal).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.Equal
public import Idealize.ShloMosaic.Lib.Quiescent

@[expose] public section

noncomputable section

namespace Cert.Proof

open Idealize.ShloMosaic Idealize.SL.Sem

/-- The kernel runs to the end on bits, its argument kept, its counters back at zero. -/
theorem frame_kernel : Cert.quiescent_Kernel := fun m ρ _ =>
  (θ_run Cert.Kernel.defs _ _).mono (fun _ h => ⟨fun c => (h.1 c (0 : Fin 2)).trans (Cert.Kernel.Run.finalA_x m ρ c), h.2⟩)
    (Cert.Kernel.Run.run_main (F := Bits) m ρ)

/-- So does its idealization on extended reals. -/
theorem frame_ideal : Cert.quiescent_KernelIdeal := fun m ρ _ =>
  (θ_run Cert.KernelIdeal.defs _ _).mono (fun _ h => ⟨fun c => (h.1 c (0 : Fin 2)).trans (Cert.KernelIdeal.Run.finalA_x m ρ c), h.2⟩)
    (Cert.KernelIdeal.Run.run_main (F := Ideal) m ρ)

/-- The reference runs to the end, its argument kept; it has no semaphore. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Given one array, cut into blocks for the kernel and whole for the reference, the two leave one result, cut into the same
    blocks: the array with each column sorted. -/
theorem algebraic : Cert.algebraic_KernelIdeal_ReferenceIdeal := fun m ρ m' ρ' _ hX =>
  ⟨Cert.Equal.refOut (m' (((0 : Dev Cert.ReferenceIdeal.nD).tc : Thread Cert.ReferenceIdeal.nD Cert.ReferenceIdeal.τ).loc Cert.ReferenceIdeal.main_arg0)),
    (θ_run Cert.KernelIdeal.defs _ _).mono (fun _ h c =>
        ⟨((h.1 c (1 : Fin 2)).trans (Cert.KernelIdeal.Run.finalA_out m ρ c)).trans (Cert.Equal.out_eq m ρ _ hX c),
          (h.1 c (0 : Fin 2)).trans (Cert.KernelIdeal.Run.finalA_x m ρ c)⟩)
      (Cert.KernelIdeal.Run.run_main (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_ref, trivial, algebraic⟩

end Cert.Proof

end
